-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_on_settled [hKernelIdeal : Cert.KernelIdeal.Facts] [hReferenceIdeal : Cert.ReferenceIdeal.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v30)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 300, 4]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v28) i = v0 c i)
          ∧ (∀ i : (⟨2, ![2, 300]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.KernelIdeal.nD Cert.KernelIdeal.τ).loc Cert.KernelIdeal.main_v30) i = v1 c i)
          ∧ (∀ i : (⟨2, ![2, 300]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.KernelIdeal.nD Cert.KernelIdeal.τ).loc Cert.KernelIdeal.main_v32) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 300, 4]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v42) i = v0 c i)
          ∧ (∀ i : (⟨2, ![2, 300]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 i = 1#1 → r.2.mem ((c.tc : Thread Cert.ReferenceIdeal.nD Cert.ReferenceIdeal.τ).loc Cert.ReferenceIdeal.main_v43) i = v1 c i)
          ∧ (∀ i : (⟨2, ![2, 300]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 i = 1#1 → r.2.mem ((c.tc : Thread Cert.ReferenceIdeal.nD Cert.ReferenceIdeal.τ).loc Cert.ReferenceIdeal.main_v44) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hOn_settled : Cert.On_settled.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_settled (hKernelIdeal := hKernelIdeal) (hReferenceIdeal := hReferenceIdeal) (hOn_settled := hOn_settled)
-- ==== On_settled.lean ====
abbrev S2x5000x4 : Shape := ⟨3, ![2, 5000, 4]⟩
abbrev S2x5000x20 : Shape := ⟨3, ![2, 5000, 20]⟩
abbrev S1x5000x1 : Shape := ⟨3, ![1, 5000, 1]⟩
abbrev S5000 : Shape := ⟨1, ![5000]⟩
abbrev S5000x1 : Shape := ⟨2, ![5000, 1]⟩
abbrev S1x5000 : Shape := ⟨2, ![1, 5000]⟩
abbrev S5000x5000 : Shape := ⟨2, ![5000, 5000]⟩
abbrev S_ : Shape := ⟨0, ![]⟩
abbrev S1x5000x20 : Shape := ⟨3, ![1, 5000, 20]⟩
abbrev S5000x20 : Shape := ⟨2, ![5000, 20]⟩
abbrev S20 : Shape := ⟨1, ![20]⟩
abbrev S300 : Shape := ⟨1, ![300]⟩
abbrev S1x300 : Shape := ⟨2, ![1, 300]⟩
abbrev S20x1 : Shape := ⟨2, ![20, 1]⟩
abbrev S20x300 : Shape := ⟨2, ![20, 300]⟩
abbrev S1 : Shape := ⟨1, ![1]⟩
abbrev S2 : Shape := ⟨1, ![2]⟩
abbrev S2x1 : Shape := ⟨2, ![2, 1]⟩
abbrev S2x300 : Shape := ⟨2, ![2, 300]⟩
abbrev S2x300x1 : Shape := ⟨3, ![2, 300, 1]⟩
abbrev S2x300x4 : Shape := ⟨3, ![2, 300, 4]⟩

class Facts : Prop where
  slices_S2x5000x4_S1x5000x1_1_0_0 : S2x5000x4.Slices ![1, 0, 0] S1x5000x1
  shapeCasts_S1x5000x1_S5000 : S1x5000x1.ShapeCasts S5000
  slices_S2x5000x4_S1x5000x1_1_0_1 : S2x5000x4.Slices ![1, 0, 1] S1x5000x1
  slices_S2x5000x4_S1x5000x1_1_0_2 : S2x5000x4.Slices ![1, 0, 2] S1x5000x1
  slices_S2x5000x4_S1x5000x1_1_0_3 : S2x5000x4.Slices ![1, 0, 3] S1x5000x1
  bcast_S5000_S5000x1_0 : S5000.BroadcastsInDim S5000x1 (![0] : Fin 1 → Fin S5000x1.rank)
  bcast_S5000_S1x5000_1 : S5000.BroadcastsInDim S1x5000 (![1] : Fin 1 → Fin S1x5000.rank)
  bcast_S5000x1_S5000x5000_0_1 : S5000x1.BroadcastsInDim S5000x5000 (![0, 1] : Fin 2 → Fin S5000x5000.rank)
  bcast_S1x5000_S5000x5000_0_1 : S1x5000.BroadcastsInDim S5000x5000 (![0, 1] : Fin 2 → Fin S5000x5000.rank)
  bcast_S_S5000x5000 : S_.BroadcastsInDim S5000x5000 (![] : Fin 0 → Fin S5000x5000.rank)
  natLt_1_32 : 1 < 32
  reducesTo_S5000x5000_S5000_d1 : S5000x5000.ReducesTo [1] S5000
  h_S_ : 0 < S_.numel
  reducesTo_S5000_S_d0 : S5000.ReducesTo [0] S_
  slices_S2x5000x20_S1x5000x20_1_0_0 : S2x5000x20.Slices ![1, 0, 0] S1x5000x20
  shapeCasts_S1x5000x20_S5000x20 : S1x5000x20.ShapeCasts S5000x20
  bcast_S_S5000x20 : S_.BroadcastsInDim S5000x20 (![] : Fin 0 → Fin S5000x20.rank)
  reducesTo_S5000x20_S20_d0 : S5000x20.ReducesTo [0] S20
  bcast_S300_S1x300_1 : S300.BroadcastsInDim S1x300 (![1] : Fin 1 → Fin S1x300.rank)
  bcast_S_S1x300 : S_.BroadcastsInDim S1x300 (![] : Fin 0 → Fin S1x300.rank)
  bcast_S20_S20x1_0 : S20.BroadcastsInDim S20x1 (![0] : Fin 1 → Fin S20x1.rank)
  bcast_S1x300_S20x300_0_1 : S1x300.BroadcastsInDim S20x300 (![0, 1] : Fin 2 → Fin S20x300.rank)
  bcast_S20x1_S20x300_0_1 : S20x1.BroadcastsInDim S20x300 (![0, 1] : Fin 2 → Fin S20x300.rank)
  reducesTo_S20x300_S20_d1 : S20x300.ReducesTo [1] S20
  reducesTo_S20_S_d0 : S20.ReducesTo [0] S_
  slices_S2x5000x20_S1x5000x20_0_0_0 : S2x5000x20.Slices ![0, 0, 0] S1x5000x20
  slices_S20_S1_0 : S20.Slices ![0] S1
  shapeCasts_S1_S_ : S1.ShapeCasts S_
  bcast_S_S300 : S_.BroadcastsInDim S300 (![] : Fin 0 → Fin S300.rank)
  bcast_S2_S2x1_0 : S2.BroadcastsInDim S2x1 (![0] : Fin 1 → Fin S2x1.rank)
  bcast_S_S2x1 : S_.BroadcastsInDim S2x1 (![] : Fin 0 → Fin S2x1.rank)
  bcast_S2x1_S2x300_0_1 : S2x1.BroadcastsInDim S2x300 (![0, 1] : Fin 2 → Fin S2x300.rank)
  bcast_S1x300_S2x300_0_1 : S1x300.BroadcastsInDim S2x300 (![0, 1] : Fin 2 → Fin S2x300.rank)
  bcast_S2x300_S2x300x1_0_1 : S2x300.BroadcastsInDim S2x300x1 (![0, 1] : Fin 2 → Fin S2x300x1.rank)
  bcast_S2x300x1_S2x300x4_0_1_2 : S2x300x1.BroadcastsInDim S2x300x4 (![0, 1, 2] : Fin 3 → Fin S2x300x4.rank)

variable [Facts]

def fn_part4 {F : FTy → Type} [FloatOps F] (main_v74 : IVec S_ 32) (main_v81 : IVec S_ 1) (main_v83 : FVec F S_ .f32) (main_cst_9 : FVec F S_ .f32) : IVec S2x300x4 1 × IVec S2x300 1 × IVec S2x300 1 :=
  let main_v84 : IVec S_ 1 := cmpf .ole main_v83 main_cst_9
  let main_v85 : IVec S_ 1 := ori main_v81 main_v84
  let main_v86 : IVec S300 32 := iotaInDim S300 32 0
  let main_v87 : IVec S300 32 := broadcastInDim S300 ![] bcast_S_S300 main_v74
  let main_v88 : IVec S300 1 := cmpi .sle main_v86 main_v87
  let main_v89 : IVec S300 1 := broadcastInDim S300 ![] bcast_S_S300 main_v85
  let main_v90 : IVec S300 1 := ori main_v88 main_v89
  let main_v91 : IVec S2 32 := iotaInDim S2 32 0
  let main_v92 : IVec S2x1 32 := broadcastInDim S2x1 ![0] bcast_S2_S2x1_0 main_v91
  let main_c_10 : IVec S_ 32 := constantI S_ 32 1#32
  let main_v93 : IVec S2x1 32 := broadcastInDim S2x1 ![] bcast_S_S2x1 main_c_10
  let main_v94 : IVec S2x1 1 := cmpi .eq main_v92 main_v93
  let main_v95 : IVec S1x300 1 := broadcastInDim S1x300 ![1] bcast_S300_S1x300_1 main_v90
  let main_v96 : IVec S2x300 1 := broadcastInDim S2x300 ![0, 1] bcast_S2x1_S2x300_0_1 main_v94
  let main_v97 : IVec S2x300 1 := broadcastInDim S2x300 ![0, 1] bcast_S1x300_S2x300_0_1 main_v95
  let main_v98 : IVec S2x300 1 := ori main_v96 main_v97
  let main_v99 : IVec S2x300x1 1 := broadcastInDim S2x300x1 ![0, 1] bcast_S2x300_S2x300x1_0_1 main_v98
  let main_v100 : IVec S2x300x4 1 := broadcastInDim S2x300x4 ![0, 1, 2] bcast_S2x300x1_S2x300x4_0_1_2 main_v99
  (main_v100, main_v98, main_v98)

def fn_part3 {F : FTy → Type} [FloatOps F] (main_arg1 : FVec F S2x5000x20 .f32) (main_v57 : IVec S_ 32) (main_v63 : IVec S20 32) (main_v64 : IVec S300 32) : IVec S2x300x4 1 × IVec S2x300 1 × IVec S2x300 1 :=
  let main_v65 : IVec S1x300 32 := broadcastInDim S1x300 ![1] bcast_S300_S1x300_1 main_v64
  let main_v66 : IVec S1x300 32 := broadcastInDim S1x300 ![] bcast_S_S1x300 main_v57
  let main_v67 : IVec S1x300 32 := muli main_v65 main_v66
  let main_v68 : IVec S20x1 32 := broadcastInDim S20x1 ![0] bcast_S20_S20x1_0 main_v63
  let main_v69 : IVec S20x300 32 := broadcastInDim S20x300 ![0, 1] bcast_S1x300_S20x300_0_1 main_v67
  let main_v70 : IVec S20x300 32 := broadcastInDim S20x300 ![0, 1] bcast_S20x1_S20x300_0_1 main_v68
  let main_v71 : IVec S20x300 1 := cmpi .slt main_v69 main_v70
  let main_v72 : IVec S20x300 32 := (extui 32 · natLt_1_32) main_v71
  let main_c_5 : IVec S_ 32 := constantI S_ 32 0#32
  let main_v73 : IVec S20 32 := (fun x v => Host.reduce IntOp.addi x v reducesTo_S20x300_S20_d1 h_S_) main_v72 main_c_5
  let main_c_6 : IVec S_ 32 := constantI S_ 32 0#32
  let main_v74 : IVec S_ 32 := (fun x v => Host.reduce IntOp.addi x v reducesTo_S20_S_d0 h_S_) main_v73 main_c_6
  let main_v75 : FVec F S1x5000x20 .f32 := (extractStridedSlice S1x5000x20 ![0, 0, 0] · slices_S2x5000x20_S1x5000x20_0_0_0) main_arg1
  let main_v76 : FVec F S5000x20 .f32 := shapeCast S5000x20 main_v75 shapeCasts_S1x5000x20_S5000x20
  let main_cst_7 : FVec F S_ .f32 := constant S_ .f32 0xFF800000#32
  let main_v77 : FVec F S20 .f32 := (fun x v => Host.reduce FloatOps.maximumf x v reducesTo_S5000x20_S20_d0 h_S_) main_v76 main_cst_7
  let main_v78 : FVec F S1 .f32 := (extractStridedSlice S1 ![0] · slices_S20_S1_0) main_v77
  let main_v79 : FVec F S_ .f32 := shapeCast S_ main_v78 shapeCasts_S1_S_
  let main_cst_8 : FVec F S_ .f32 := constant S_ .f32 0xFF800000#32
  let main_v80 : FVec F S_ .f32 := (fun x v => Host.reduce FloatOps.maximumf x v reducesTo_S20_S_d0 h_S_) main_v77 main_cst_8
  let main_v81 : IVec S_ 1 := cmpf .oge main_v79 main_v80
  let main_v82 : FVec F S1 .f32 := (extractStridedSlice S1 ![0] · slices_S20_S1_0) main_v77
  let main_v83 : FVec F S_ .f32 := shapeCast S_ main_v82 shapeCasts_S1_S_
  let main_cst_9 : FVec F S_ .f32 := constant S_ .f32 0x3D4CCCCD#32
  fn_part4 (F := F) main_v74 main_v81 main_v83 main_cst_9

def fn_part2 {F : FTy → Type} [FloatOps F] (main_arg1 : FVec F S2x5000x20 .f32) (main_v44 : FVec F S5000x5000 .f32) (main_cst_1 : FVec F S_ .f32) : IVec S2x300x4 1 × IVec S2x300 1 × IVec S2x300 1 :=
  let main_v45 : FVec F S5000x5000 .f32 := broadcastInDim S5000x5000 ![] bcast_S_S5000x5000 main_cst_1
  let main_v46 : IVec S5000x5000 1 := cmpf .ogt main_v44 main_v45
  let main_v47 : IVec S5000 32 := iotaInDim S5000 32 0
  let main_v48 : IVec S5000x1 32 := broadcastInDim S5000x1 ![0] bcast_S5000_S5000x1_0 main_v47
  let main_v49 : IVec S5000 32 := iotaInDim S5000 32 0
  let main_v50 : IVec S1x5000 32 := broadcastInDim S1x5000 ![1] bcast_S5000_S1x5000_1 main_v49
  let main_v51 : IVec S5000x5000 32 := broadcastInDim S5000x5000 ![0, 1] bcast_S5000x1_S5000x5000_0_1 main_v48
  let main_v52 : IVec S5000x5000 32 := broadcastInDim S5000x5000 ![0, 1] bcast_S1x5000_S5000x5000_0_1 main_v50
  let main_v53 : IVec S5000x5000 1 := cmpi .eq main_v51 main_v52
  let main_v54 : IVec S5000x5000 1 := ori main_v46 main_v53
  let main_v55 : IVec S5000x5000 32 := (extui 32 · natLt_1_32) main_v54
  let main_c : IVec S_ 32 := constantI S_ 32 0#32
  let main_v56 : IVec S5000 32 := (fun x v => Host.reduce IntOp.addi x v reducesTo_S5000x5000_S5000_d1 h_S_) main_v55 main_c
  let main_c_2 : IVec S_ 32 := constantI S_ 32 2147483648#32
  let main_v57 : IVec S_ 32 := (fun x v => Host.reduce IntOp.maxsi x v reducesTo_S5000_S_d0 h_S_) main_v56 main_c_2
  let main_v58 : FVec F S1x5000x20 .f32 := (extractStridedSlice S1x5000x20 ![1, 0, 0] · slices_S2x5000x20_S1x5000x20_1_0_0) main_arg1
  let main_v59 : FVec F S5000x20 .f32 := shapeCast S5000x20 main_v58 shapeCasts_S1x5000x20_S5000x20
  let main_cst_3 : FVec F S_ .f32 := constant S_ .f32 0x3D4CCCCD#32
  let main_v60 : FVec F S5000x20 .f32 := broadcastInDim S5000x20 ![] bcast_S_S5000x20 main_cst_3
  let main_v61 : IVec S5000x20 1 := cmpf .ogt main_v59 main_v60
  let main_v62 : IVec S5000x20 32 := (extui 32 · natLt_1_32) main_v61
  let main_c_4 : IVec S_ 32 := constantI S_ 32 0#32
  let main_v63 : IVec S20 32 := (fun x v => Host.reduce IntOp.addi x v reducesTo_S5000x20_S20_d0 h_S_) main_v62 main_c_4
  let main_v64 : IVec S300 32 := iotaInDim S300 32 0
  fn_part3 (F := F) main_arg1 main_v57 main_v63 main_v64

def fn_part1 {F : FTy → Type} [FloatOps F] (main_arg1 : FVec F S2x5000x20 .f32) (main_v3 : FVec F S5000 .f32) (main_v10 : FVec F S5000 .f32) (main_v21 : FVec F S5000x5000 .f32) (main_v22 : FVec F S5000x1 .f32) (main_v23 : FVec F S1x5000 .f32) : IVec S2x300x4 1 × IVec S2x300 1 × IVec S2x300 1 :=
  let main_v24 : FVec F S5000x5000 .f32 := broadcastInDim S5000x5000 ![0, 1] bcast_S5000x1_S5000x5000_0_1 main_v22
  let main_v25 : FVec F S5000x5000 .f32 := broadcastInDim S5000x5000 ![0, 1] bcast_S1x5000_S5000x5000_0_1 main_v23
  let main_v26 : FVec F S5000x5000 .f32 := minimumf main_v24 main_v25
  let main_v27 : FVec F S5000x1 .f32 := broadcastInDim S5000x1 ![0] bcast_S5000_S5000x1_0 main_v3
  let main_v28 : FVec F S1x5000 .f32 := broadcastInDim S1x5000 ![1] bcast_S5000_S1x5000_1 main_v3
  let main_v29 : FVec F S5000x5000 .f32 := broadcastInDim S5000x5000 ![0, 1] bcast_S5000x1_S5000x5000_0_1 main_v27
  let main_v30 : FVec F S5000x5000 .f32 := broadcastInDim S5000x5000 ![0, 1] bcast_S1x5000_S5000x5000_0_1 main_v28
  let main_v31 : FVec F S5000x5000 .f32 := maximumf main_v29 main_v30
  let main_v32 : FVec F S5000x5000 .f32 := subf main_v26 main_v31
  let main_cst : FVec F S_ .f32 := constant S_ .f32 0x00000000#32
  let main_v33 : FVec F S5000x5000 .f32 := broadcastInDim S5000x5000 ![] bcast_S_S5000x5000 main_cst
  let main_v34 : FVec F S5000x5000 .f32 := maximumf main_v21 main_v33
  let main_cst_0 : FVec F S_ .f32 := constant S_ .f32 0x00000000#32
  let main_v35 : FVec F S5000x5000 .f32 := broadcastInDim S5000x5000 ![] bcast_S_S5000x5000 main_cst_0
  let main_v36 : FVec F S5000x5000 .f32 := maximumf main_v32 main_v35
  let main_v37 : FVec F S5000x5000 .f32 := mulf main_v34 main_v36
  let main_v38 : FVec F S5000x1 .f32 := broadcastInDim S5000x1 ![0] bcast_S5000_S5000x1_0 main_v10
  let main_v39 : FVec F S1x5000 .f32 := broadcastInDim S1x5000 ![1] bcast_S5000_S1x5000_1 main_v10
  let main_v40 : FVec F S5000x5000 .f32 := broadcastInDim S5000x5000 ![0, 1] bcast_S5000x1_S5000x5000_0_1 main_v38
  let main_v41 : FVec F S5000x5000 .f32 := broadcastInDim S5000x5000 ![0, 1] bcast_S1x5000_S5000x5000_0_1 main_v39
  let main_v42 : FVec F S5000x5000 .f32 := addf main_v40 main_v41
  let main_v43 : FVec F S5000x5000 .f32 := subf main_v42 main_v37
  let main_v44 : FVec F S5000x5000 .f32 := Host.divf main_v37 main_v43
  let main_cst_1 : FVec F S_ .f32 := constant S_ .f32 0x3F000000#32
  fn_part2 (F := F) main_arg1 main_v44 main_cst_1

def fn {F : FTy → Type} [FloatOps F] (main_arg0 : FVec F S2x5000x4 .f32) (main_arg1 : FVec F S2x5000x20 .f32) : IVec S2x300x4 1 × IVec S2x300 1 × IVec S2x300 1 :=
  let main_v0 : FVec F S1x5000x1 .f32 := (extractStridedSlice S1x5000x1 ![1, 0, 0] · slices_S2x5000x4_S1x5000x1_1_0_0) main_arg0
  let main_v1 : FVec F S5000 .f32 := shapeCast S5000 main_v0 shapeCasts_S1x5000x1_S5000
  let main_v2 : FVec F S1x5000x1 .f32 := (extractStridedSlice S1x5000x1 ![1, 0, 1] · slices_S2x5000x4_S1x5000x1_1_0_1) main_arg0
  let main_v3 : FVec F S5000 .f32 := shapeCast S5000 main_v2 shapeCasts_S1x5000x1_S5000
  let main_v4 : FVec F S1x5000x1 .f32 := (extractStridedSlice S1x5000x1 ![1, 0, 2] · slices_S2x5000x4_S1x5000x1_1_0_2) main_arg0
  let main_v5 : FVec F S5000 .f32 := shapeCast S5000 main_v4 shapeCasts_S1x5000x1_S5000
  let main_v6 : FVec F S1x5000x1 .f32 := (extractStridedSlice S1x5000x1 ![1, 0, 3] · slices_S2x5000x4_S1x5000x1_1_0_3) main_arg0
  let main_v7 : FVec F S5000 .f32 := shapeCast S5000 main_v6 shapeCasts_S1x5000x1_S5000
  let main_v8 : FVec F S5000 .f32 := subf main_v5 main_v1
  let main_v9 : FVec F S5000 .f32 := subf main_v7 main_v3
  let main_v10 : FVec F S5000 .f32 := mulf main_v8 main_v9
  let main_v11 : FVec F S5000x1 .f32 := broadcastInDim S5000x1 ![0] bcast_S5000_S5000x1_0 main_v5
  let main_v12 : FVec F S1x5000 .f32 := broadcastInDim S1x5000 ![1] bcast_S5000_S1x5000_1 main_v5
  let main_v13 : FVec F S5000x5000 .f32 := broadcastInDim S5000x5000 ![0, 1] bcast_S5000x1_S5000x5000_0_1 main_v11
  let main_v14 : FVec F S5000x5000 .f32 := broadcastInDim S5000x5000 ![0, 1] bcast_S1x5000_S5000x5000_0_1 main_v12
  let main_v15 : FVec F S5000x5000 .f32 := minimumf main_v13 main_v14
  let main_v16 : FVec F S5000x1 .f32 := broadcastInDim S5000x1 ![0] bcast_S5000_S5000x1_0 main_v1
  let main_v17 : FVec F S1x5000 .f32 := broadcastInDim S1x5000 ![1] bcast_S5000_S1x5000_1 main_v1
  let main_v18 : FVec F S5000x5000 .f32 := broadcastInDim S5000x5000 ![0, 1] bcast_S5000x1_S5000x5000_0_1 main_v16
  let main_v19 : FVec F S5000x5000 .f32 := broadcastInDim S5000x5000 ![0, 1] bcast_S1x5000_S5000x5000_0_1 main_v17
  let main_v20 : FVec F S5000x5000 .f32 := maximumf main_v18 main_v19
  let main_v21 : FVec F S5000x5000 .f32 := subf main_v15 main_v20
  let main_v22 : FVec F S5000x1 .f32 := broadcastInDim S5000x1 ![0] bcast_S5000_S5000x1_0 main_v7
  let main_v23 : FVec F S1x5000 .f32 := broadcastInDim S1x5000 ![1] bcast_S5000_S1x5000_1 main_v7
  fn_part1 (F := F) main_arg1 main_v3 main_v10 main_v21 main_v22 main_v23
-- ==== Kernel.lean ====
abbrev S2x5000x4 : Shape := ⟨3, ![2, 5000, 4]⟩
abbrev S2x5000x20 : Shape := ⟨3, ![2, 5000, 20]⟩
abbrev S2x20x5000 : Shape := ⟨3, ![2, 20, 5000]⟩
abbrev S40x5000 : Shape := ⟨2, ![40, 5000]⟩
abbrev S_ : Shape := ⟨0, ![]⟩
abbrev S40x5120 : Shape := ⟨2, ![40, 5120]⟩
abbrev S2x5000x1 : Shape := ⟨3, ![2, 5000, 1]⟩
abbrev S2x5000 : Shape := ⟨2, ![2, 5000]⟩
abbrev S2x1x5000 : Shape := ⟨3, ![2, 1, 5000]⟩
abbrev S2x304x4 : Shape := ⟨3, ![2, 304, 4]⟩
abbrev S304x8 : Shape := ⟨2, ![304, 8]⟩
abbrev S40x304 : Shape := ⟨2, ![40, 304]⟩
abbrev S40 : Shape := ⟨1, ![40]⟩
abbrev S40x1 : Shape := ⟨2, ![40, 1]⟩
abbrev S1x8 : Shape := ⟨2, ![1, 8]⟩
abbrev S1x4 : Shape := ⟨2, ![1, 4]⟩
abbrev S1 : Shape := ⟨1, ![1]⟩
abbrev S1x1 : Shape := ⟨2, ![1, 1]⟩
abbrev S1x1x4 : Shape := ⟨3, ![1, 1, 4]⟩
abbrev S2x300x4 : Shape := ⟨3, ![2, 300, 4]⟩
abbrev S300x2 : Shape := ⟨2, ![300, 2]⟩
abbrev S2x300 : Shape := ⟨2, ![2, 300]⟩

abbrev nBuf : Space → Nat
  | .hbm => 47
  | .vmem => 15
  | .smem => 0
  | _ => 0

abbrev bufTy : (tb : Table) → Fin (tcTables nBuf tb) → BufTy
  | .hbm, ⟨0, _⟩ => ⟨S2x5000x4, .f32⟩
  | .hbm, ⟨1, _⟩ => ⟨S2x5000x20, .f32⟩
  | .hbm, ⟨2, _⟩ => ⟨S2x20x5000, .f32⟩
  | .hbm, ⟨3, _⟩ => ⟨S40x5000, .f32⟩
  | .hbm, ⟨4, _⟩ => ⟨S_, .f32⟩
  | .hbm, ⟨5, _⟩ => ⟨S_, .f32⟩
  | .hbm, ⟨6, _⟩ => ⟨S40x5120, .f32⟩
  | .hbm, ⟨7, _⟩ => ⟨S2x5000x1, .f32⟩
  | .hbm, ⟨8, _⟩ => ⟨S2x5000, .f32⟩
  | .hbm, ⟨9, _⟩ => ⟨S2x1x5000, .f32⟩
  | .hbm, ⟨10, _⟩ => ⟨S2x20x5000, .f32⟩
  | .hbm, ⟨11, _⟩ => ⟨S40x5000, .f32⟩
  | .hbm, ⟨12, _⟩ => ⟨S_, .i32⟩
  | .hbm, ⟨13, _⟩ => ⟨S_, .f32⟩
  | .hbm, ⟨14, _⟩ => ⟨S40x5120, .f32⟩
  | .hbm, ⟨15, _⟩ => ⟨S2x5000x1, .f32⟩
  | .hbm, ⟨16, _⟩ => ⟨S2x5000, .f32⟩
  | .hbm, ⟨17, _⟩ => ⟨S2x1x5000, .f32⟩
  | .hbm, ⟨18, _⟩ => ⟨S2x20x5000, .f32⟩
  | .hbm, ⟨19, _⟩ => ⟨S40x5000, .f32⟩
  | .hbm, ⟨20, _⟩ => ⟨S_, .i32⟩
  | .hbm, ⟨21, _⟩ => ⟨S_, .f32⟩
  | .hbm, ⟨22, _⟩ => ⟨S40x5120, .f32⟩
  | .hbm, ⟨23, _⟩ => ⟨S2x5000x1, .f32⟩
  | .hbm, ⟨24, _⟩ => ⟨S2x5000, .f32⟩
  | .hbm, ⟨25, _⟩ => ⟨S2x1x5000, .f32⟩
  | .hbm, ⟨26, _⟩ => ⟨S2x20x5000, .f32⟩
  | .hbm, ⟨27, _⟩ => ⟨S40x5000, .f32⟩
  | .hbm, ⟨28, _⟩ => ⟨S_, .i32⟩
  | .hbm, ⟨29, _⟩ => ⟨S_, .f32⟩
  | .hbm, ⟨30, _⟩ => ⟨S40x5120, .f32⟩
  | .hbm, ⟨31, _⟩ => ⟨S2x5000x1, .f32⟩
  | .hbm, ⟨32, _⟩ => ⟨S2x5000, .f32⟩
  | .hbm, ⟨33, _⟩ => ⟨S2x1x5000, .f32⟩
  | .hbm, ⟨34, _⟩ => ⟨S2x20x5000, .f32⟩
  | .hbm, ⟨35, _⟩ => ⟨S40x5000, .f32⟩
  | .hbm, ⟨36, _⟩ => ⟨S_, .i32⟩
  | .hbm, ⟨37, _⟩ => ⟨S_, .f32⟩
  | .hbm, ⟨38, _⟩ => ⟨S40x5120, .f32⟩
  | .hbm, ⟨39, _⟩ => ⟨S2x304x4, .f32⟩
  | .hbm, ⟨40, _⟩ => ⟨S304x8, .f32⟩
  | .hbm, ⟨41, _⟩ => ⟨S304x8, .i32⟩
  | .hbm, ⟨42, _⟩ => ⟨S2x300x4, .f32⟩
  | .hbm, ⟨43, _⟩ => ⟨S300x2, .f32⟩
  | .hbm, ⟨44, _⟩ => ⟨S2x300, .f32⟩
  | .hbm, ⟨45, _⟩ => ⟨S300x2, .i32⟩
  | .hbm, ⟨46, _⟩ => ⟨S2x300, .i32⟩
  | .local _ .vmem, ⟨0, _⟩ => ⟨S40x5120, .f32⟩
  | .local _ .vmem, ⟨1, _⟩ => ⟨S40x5120, .f32⟩
  | .local _ .vmem, ⟨2, _⟩ => ⟨S40x5120, .f32⟩
  | .local _ .vmem, ⟨3, _⟩ => ⟨S40x5120, .f32⟩
  | .local _ .vmem, ⟨4, _⟩ => ⟨S40x5120, .f32⟩
  | .local _ .vmem, ⟨5, _⟩ => ⟨S2x304x4, .f32⟩
  | .local _ .vmem, ⟨6, _⟩ => ⟨S304x8, .f32⟩
  | .local _ .vmem, ⟨7, _⟩ => ⟨S304x8, .i32⟩
  | .local _ .vmem, ⟨8, _⟩ => ⟨S40x5120, .f32⟩
  | .local _ .vmem, ⟨9, _⟩ => ⟨S40x5120, .f32⟩
  | .local _ .vmem, ⟨10, _⟩ => ⟨S40x304, .f32⟩
  | .local _ .vmem, ⟨11, _⟩ => ⟨S40x304, .f32⟩
  | .local _ .vmem, ⟨12, _⟩ => ⟨S40x304, .f32⟩
  | .local _ .vmem, ⟨13, _⟩ => ⟨S40x304, .f32⟩
  | .local _ .vmem, ⟨14, _⟩ => ⟨S40x304, .f32⟩
  | _, _ => ⟨S2x5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_call2_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_call3_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_call4_v0 : Ref sig .tc := ⟨.hbm, 37, rfl⟩
abbrev main_v26 : Ref sig .tc := ⟨.hbm, 38, rfl⟩
abbrev main_v27_0 : Ref sig .tc := ⟨.hbm, 39, rfl⟩
abbrev main_v27_1 : Ref sig .tc := ⟨.hbm, 40, rfl⟩
abbrev main_v27_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c300_i32 : BitVec 32 := 300#32
  let v46 : BitVec 32 := Scalar.addi c0_i32 c300_i32
  let c1_i32 : BitVec 32 := 1#32
  ⟨c0_i32, v46, c1_i32⟩
@[reducible] def k0_t2_loop : Scf.Loop 32 :=
  let c0_i32_41 : BitVec 32 := 0#32
  let c300_i32_42 : BitVec 32 := 300#32
  let v61 : BitVec 32 := Scalar.addi c0_i32_41 c300_i32_42
  let c1_i32_43 : BitVec 32 := 1#32
  ⟨c0_i32_41, v61, c1_i32_43⟩
def k0_off1 (k0_t2 : Fin k0_t2_loop.trips) : Fin 3 → Nat :=
  let c0_77 : Index := 0#32
  let c0_i32_41 : BitVec 32 := 0#32
  let c1_i32_43 : BitVec 32 := 1#32
  let arg15 : BitVec 32 := Scf.iv c0_i32_41 c1_i32_43 k0_t2
  let v156 : Index := Scalar.indexCast arg15
  let c0_78 : Index := 0#32
  ![0, v156.toNat, 0]
def k0_off2 (k0_t2 : Fin k0_t2_loop.trips) : Fin 3 → Nat :=
  let c1 : Index := 1#32
  let c0_i32_41 : BitVec 32 := 0#32
  let c1_i32_43 : BitVec 32 := 1#32
  let arg15 : BitVec 32 := Scf.iv c0_i32_41 c1_i32_43 k0_t2
  let v253 : Index := Scalar.indexCast arg15
  let c0_112 : Index := 0#32
  ![1, v253.toNat, 0]
def k0_off3 (k0_t2 : Fin k0_t2_loop.trips) : Fin 2 → Nat :=
  let c0_i32_41 : BitVec 32 := 0#32
  let c1_i32_43 : BitVec 32 := 1#32
  let arg15 : BitVec 32 := Scf.iv c0_i32_41 c1_i32_43 k0_t2
  let v285 : Index := Scalar.indexCast arg15
  let c0_122 : Index := 0#32
  ![v285.toNat, 0]
abbrev stage0_0 : Fin 1 → Memref sig .tc .vmem S40x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S40x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S40x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x304x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S304x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S304x8 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2x5000x4 : Shape := ⟨3, ![2, 5000, 4]⟩
abbrev S2x5000x20 : Shape := ⟨3, ![2, 5000, 20]⟩
abbrev S2x5000x1 : Shape := ⟨3, ![2, 5000, 1]⟩
abbrev S2x5000 : Shape := ⟨2, ![2, 5000]⟩
abbrev S2x1x5000 : Shape := ⟨3, ![2, 1, 5000]⟩
abbrev S2x20x5000 : Shape := ⟨3, ![2, 20, 5000]⟩
abbrev S_ : Shape := ⟨0, ![]⟩
abbrev S300x2x20 : Shape := ⟨3, ![300, 2, 20]⟩
abbrev S300x2x20x4 : Shape := ⟨4, ![300, 2, 20, 4]⟩
abbrev S2x20x1 : Shape := ⟨3, ![2, 20, 1]⟩
abbrev S2x20 : Shape := ⟨2, ![2, 20]⟩
abbrev S2 : Shape := ⟨1, ![2]⟩
abbrev S2x1 : Shape := ⟨2, ![2, 1]⟩
abbrev S2x20x2 : Shape := ⟨3, ![2, 20, 2]⟩
abbrev S2x20x4 : Shape := ⟨3, ![2, 20, 4]⟩
abbrev S5000 : Shape := ⟨1, ![5000]⟩
abbrev S1x1x5000 : Shape := ⟨3, ![1, 1, 5000]⟩
abbrev S1x2x20 : Shape := ⟨3, ![1, 2, 20]⟩
abbrev S1x2x20x4 : Shape := ⟨4, ![1, 2, 20, 4]⟩
abbrev S2x20x300 : Shape := ⟨3, ![2, 20, 300]⟩
abbrev S2x6000 : Shape := ⟨2, ![2, 6000]⟩
abbrev S2x20x300x4 : Shape := ⟨4, ![2, 20, 300, 4]⟩
abbrev S2x6000x4 : Shape := ⟨3, ![2, 6000, 4]⟩
abbrev S20 : Shape := ⟨1, ![20]⟩
abbrev S20x1 : Shape := ⟨2, ![20, 1]⟩
abbrev S20x300 : Shape := ⟨2, ![20, 300]⟩
abbrev S6000 : Shape := ⟨1, ![6000]⟩
abbrev S2x300 : Shape := ⟨2, ![2, 300]⟩
abbrev S2x300x1 : Shape := ⟨3, ![2, 300, 1]⟩
abbrev S2x300x2 : Shape := ⟨3, ![2, 300, 2]⟩
abbrev S2x300x4 : Shape := ⟨3, ![2, 300, 4]⟩

abbrev nBuf : Space → Nat
  | .hbm => 175
  | .vmem => 0
  | .smem => 0
  | _ => 0

abbrev hbmTy0_0 (i : Nat) : BufTy := match i % 128 with
  | 0 => ⟨S2x5000x4, .f32⟩
  | 1 => ⟨S2x5000x20, .f32⟩
  | 2 => ⟨S2x5000x1, .f32⟩
  | 3 => ⟨S2x5000, .f32⟩
  | 4 => ⟨S2x1x5000, .f32⟩
  | 5 => ⟨S2x5000x1, .f32⟩
  | 6 => ⟨S2x5000, .f32⟩
  | 7 => ⟨S2x1x5000, .f32⟩
  | 8 => ⟨S2x5000x1, .f32⟩
  | 9 => ⟨S2x5000, .f32⟩
  | 10 => ⟨S2x1x5000, .f32⟩
  | 11 => ⟨S2x5000x1, .f32⟩
  | 12 => ⟨S2x5000, .f32⟩
  | 13 => ⟨S2x1x5000, .f32⟩
  | 14 => ⟨S2x1x5000, .f32⟩
  | 15 => ⟨S2x1x5000, .f32⟩
  | 16 => ⟨S2x1x5000, .f32⟩
  | 17 => ⟨S2x20x5000, .f32⟩
  | 18 => ⟨S_, .f32⟩
  | 19 => ⟨S2x20x5000, .f32⟩
  | 20 => ⟨S2x20x5000, .i1⟩
  | 21 => ⟨S_, .f32⟩
  | 22 => ⟨S_, .f32⟩
  | 23 => ⟨S2x20x5000, .f32⟩
  | 24 => ⟨S2x20x5000, .f32⟩
  | 25 => ⟨S_, .f32⟩
  | 26 => ⟨S300x2x20, .f32⟩
  | 27 => ⟨S_, .f32⟩
  | 28 => ⟨S300x2x20x4, .f32⟩
  | 29 => ⟨S_, .i32⟩
  | 30 => ⟨S2x5000x4, .f32⟩
  | 31 => ⟨S2x1x5000, .f32⟩
  | 32 => ⟨S2x1x5000, .f32⟩
  | 33 => ⟨S2x1x5000, .f32⟩
  | 34 => ⟨S2x1x5000, .f32⟩
  | 35 => ⟨S2x1x5000, .f32⟩
  | 36 => ⟨S_, .i32⟩
  | 37 => ⟨S2x20x5000, .f32⟩
  | 38 => ⟨S300x2x20, .f32⟩
  | 39 => ⟨S300x2x20x4, .f32⟩
  | 40 => ⟨S_, .i32⟩
  | 41 => ⟨S_, .i1⟩
  | 42 => ⟨S2x20x1, .f32⟩
  | 43 => ⟨S2x20x1, .i32⟩
  | 44 => ⟨S2x20, .f32⟩
  | 45 => ⟨S2x20, .i32⟩
  | 46 => ⟨S_, .f32⟩
  | 47 => ⟨S2x20, .f32⟩
  | 48 => ⟨S2x20, .i1⟩
  | 49 => ⟨S2, .i32⟩
  | 50 => ⟨S2x1, .i32⟩
  | 51 => ⟨S2x20, .i32⟩
  | 52 => ⟨S2x20x1, .i32⟩
  | 53 => ⟨S2x20x1, .i32⟩
  | 54 => ⟨S2x20x2, .i32⟩
  | 55 => ⟨S2x20x4, .f32⟩
  | 56 => ⟨S2x20x1, .f32⟩
  | 57 => ⟨S2x20, .f32⟩
  | 58 => ⟨S2x20x1, .f32⟩
  | 59 => ⟨S2x20x1, .f32⟩
  | 60 => ⟨S2x20, .f32⟩
  | 61 => ⟨S2x20x1, .f32⟩
  | 62 => ⟨S2x20x1, .f32⟩
  | 63 => ⟨S2x20, .f32⟩
  | 64 => ⟨S2x20x1, .f32⟩
  | 65 => ⟨S2x20x1, .f32⟩
  | 66 => ⟨S2x20, .f32⟩
  | 67 => ⟨S2x20x1, .f32⟩
  | 68 => ⟨S2x20x5000, .f32⟩
  | 69 => ⟨S2x20x5000, .f32⟩
  | 70 => ⟨S2x20x5000, .f32⟩
  | 71 => ⟨S2x20x5000, .f32⟩
  | 72 => ⟨S2x20x5000, .f32⟩
  | 73 => ⟨S2x20x5000, .f32⟩
  | 74 => ⟨S2x20x5000, .f32⟩
  | 75 => ⟨S2x20x5000, .f32⟩
  | 76 => ⟨S2x20x5000, .f32⟩
  | 77 => ⟨S2x20x5000, .f32⟩
  | 78 => ⟨S2x20x5000, .f32⟩
  | 79 => ⟨S2x20x5000, .f32⟩
  | 80 => ⟨S2x20x5000, .f32⟩
  | 81 => ⟨S_, .f32⟩
  | 82 => ⟨S2x20x5000, .f32⟩
  | 83 => ⟨S2x20x5000, .f32⟩
  | 84 => ⟨S2x20x5000, .f32⟩
  | 85 => ⟨S_, .f32⟩
  | 86 => ⟨S2x20x5000, .f32⟩
  | 87 => ⟨S2x20x5000, .f32⟩
  | 88 => ⟨S2x20x5000, .f32⟩
  | 89 => ⟨S2x20x1, .f32⟩
  | 90 => ⟨S2x20x1, .f32⟩
  | 91 => ⟨S2x20x1, .f32⟩
  | 92 => ⟨S2x20x5000, .f32⟩
  | 93 => ⟨S2x20x5000, .f32⟩
  | 94 => ⟨S2x20x5000, .f32⟩
  | 95 => ⟨S2x20x5000, .f32⟩
  | 96 => ⟨S_, .f32⟩
  | 97 => ⟨S2x20x5000, .f32⟩
  | 98 => ⟨S2x20x5000, .i1⟩
  | 99 => ⟨S2x20x5000, .f32⟩
  | 100 => ⟨S_, .f32⟩
  | 101 => ⟨S_, .f32⟩
  | 102 => ⟨S2x20x5000, .f32⟩
  | 103 => ⟨S2x20x5000, .f32⟩
  | 104 => ⟨S_, .f32⟩
  | 105 => ⟨S2x20x5000, .f32⟩
  | 106 => ⟨S2x20x5000, .i1⟩
  | 107 => ⟨S2x20x1, .i1⟩
  | 108 => ⟨S2x20x5000, .i1⟩
  | 109 => ⟨S2x20x5000, .i1⟩
  | 110 => ⟨S_, .f32⟩
  | 111 => ⟨S_, .f32⟩
  | 112 => ⟨S2x20x5000, .f32⟩
  | 113 => ⟨S2x20x5000, .f32⟩
  | 114 => ⟨S5000, .i32⟩
  | 115 => ⟨S2x20x1, .i32⟩
  | 116 => ⟨S1x1x5000, .i32⟩
  | 117 => ⟨S2x20x5000, .i32⟩
  | 118 => ⟨S2x20x5000, .i32⟩
  | 119 => ⟨S2x20x5000, .i1⟩
  | 120 => ⟨S_, .f32⟩
  | 121 => ⟨S_, .f32⟩
  | 122 => ⟨S2x20x5000, .f32⟩
  | 123 => ⟨S2x20x5000, .f32⟩
  | 124 => ⟨S_, .f32⟩
  | 125 => ⟨S_, .f32⟩
  | 126 => ⟨S2x20, .f32⟩
  | 127 => ⟨S2x20, .f32⟩
  | _ => ⟨S2x5000x4, .f32⟩

abbrev hbmTy0_1 (i : Nat) : BufTy := match i % 128 with
  | 0 => ⟨S1x2x20, .f32⟩
  | 1 => ⟨S_, .i32⟩
  | 2 => ⟨S_, .i32⟩
  | 3 => ⟨S300x2x20, .f32⟩
  | 4 => ⟨S1x2x20x4, .f32⟩
  | 5 => ⟨S_, .i32⟩
  | 6 => ⟨S_, .i32⟩
  | 7 => ⟨S_, .i32⟩
  | 8 => ⟨S300x2x20x4, .f32⟩
  | 9 => ⟨S_, .i32⟩
  | 10 => ⟨S_, .i32⟩
  | 11 => ⟨S2x20x300, .f32⟩
  | 12 => ⟨S2x6000, .f32⟩
  | 13 => ⟨S2x20x300x4, .f32⟩
  | 14 => ⟨S2x6000x4, .f32⟩
  | 15 => ⟨S20, .i32⟩
  | 16 => ⟨S20x1, .i32⟩
  | 17 => ⟨S20x300, .i32⟩
  | 18 => ⟨S6000, .i32⟩
  | 19 => ⟨S2x300, .f32⟩
  | 20 => ⟨S2x300, .i32⟩
  | 21 => ⟨S2, .i32⟩
  | 22 => ⟨S2x1, .i32⟩
  | 23 => ⟨S2x300, .i32⟩
  | 24 => ⟨S2x300x1, .i32⟩
  | 25 => ⟨S2x300x1, .i32⟩
  | 26 => ⟨S2x300x2, .i32⟩
  | 27 => ⟨S2x300x4, .f32⟩
  | 28 => ⟨S2x300x1, .i32⟩
  | 29 => ⟨S2x300, .i32⟩
  | 30 => ⟨S_, .f32⟩
  | 31 => ⟨S2x300, .f32⟩
  | 32 => ⟨S2x300, .i1⟩
  | 33 => ⟨S2x300x1, .i1⟩
  | 34 => ⟨S_, .f32⟩
  | 35 => ⟨S_, .f32⟩
  | 36 => ⟨S2x300x4, .i1⟩
  | 37 => ⟨S2x300x4, .f32⟩
  | 38 => ⟨S2x300x4, .f32⟩
  | 39 => ⟨S_, .f32⟩
  | 40 => ⟨S_, .f32⟩
  | 41 => ⟨S2x300, .f32⟩
  | 42 => ⟨S2x300, .f32⟩
  | 43 => ⟨S_, .i32⟩
  | 44 => ⟨S_, .i32⟩
  | 45 => ⟨S2x300, .i32⟩
  | 46 => ⟨S2x300, .i32⟩
  | _ => ⟨S2x5000x4, .f32⟩

abbrev hbmTy (i : Nat) : BufTy := match i / 128 with
  | 0 => hbmTy0_0 i
  | 1 => hbmTy0_1 i
  | _ => ⟨S2x5000x4, .f32⟩

abbrev bufTy : (tb : Table) → Fin (tcTables nBuf tb) → BufTy
  | .hbm, ⟨i, _⟩ => hbmTy i
  | _, _ => ⟨S2x5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_cst : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_c : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev main_v21_5 : Ref sig .tc := ⟨.hbm, 35, rfl⟩
abbrev main_v21_6 : Ref sig .tc := ⟨.hbm, 36, rfl⟩
abbrev main_v21_7 : Ref sig .tc := ⟨.hbm, 37, rfl⟩
abbrev main_v21_8 : Ref sig .tc := ⟨.hbm, 38, rfl⟩
abbrev main_v21_9 : Ref sig .tc := ⟨.hbm, 39, rfl⟩
abbrev main_while0c_c_16 : Ref sig .tc := ⟨.hbm, 40, rfl⟩
abbrev main_while0c_v45 : Ref sig .tc := ⟨.hbm, 41, rfl⟩
abbrev main_while0b_values_16 : Ref sig .tc := ⟨.hbm, 42, rfl⟩
abbrev main_while0b_indices_17 : Ref sig .tc := ⟨.hbm, 43, rfl⟩
abbrev main_while0b_v45 : Ref sig .tc := ⟨.hbm, 44, rfl⟩
abbrev main_while0b_v46 : Ref sig .tc := ⟨.hbm, 45, rfl⟩
abbrev main_while0b_cst_18 : Ref sig .tc := ⟨.hbm, 46, rfl⟩
abbrev main_while0b_v47 : Ref sig .tc := ⟨.hbm, 47, rfl⟩
abbrev main_while0b_v48 : Ref sig .tc := ⟨.hbm, 48, rfl⟩
abbrev main_while0b_v49 : Ref sig .tc := ⟨.hbm, 49, rfl⟩
abbrev main_while0b_v50 : Ref sig .tc := ⟨.hbm, 50, rfl⟩
abbrev main_while0b_v51 : Ref sig .tc := ⟨.hbm, 51, rfl⟩
abbrev main_while0b_v52 : Ref sig .tc := ⟨.hbm, 52, rfl⟩
abbrev main_while0b_v53 : Ref sig .tc := ⟨.hbm, 53, rfl⟩
abbrev main_while0b_v54 : Ref sig .tc := ⟨.hbm, 54, rfl⟩
abbrev main_while0b_v55 : Ref sig .tc := ⟨.hbm, 55, rfl⟩
abbrev main_while0b_v56 : Ref sig .tc := ⟨.hbm, 56, rfl⟩
abbrev main_while0b_v57 : Ref sig .tc := ⟨.hbm, 57, rfl⟩
abbrev main_while0b_v58 : Ref sig .tc := ⟨.hbm, 58, rfl⟩
abbrev main_while0b_v59 : Ref sig .tc := ⟨.hbm, 59, rfl⟩
abbrev main_while0b_v60 : Ref sig .tc := ⟨.hbm, 60, rfl⟩
abbrev main_while0b_v61 : Ref sig .tc := ⟨.hbm, 61, rfl⟩
abbrev main_while0b_v62 : Ref sig .tc := ⟨.hbm, 62, rfl⟩
abbrev main_while0b_v63 : Ref sig .tc := ⟨.hbm, 63, rfl⟩
abbrev main_while0b_v64 : Ref sig .tc := ⟨.hbm, 64, rfl⟩
abbrev main_while0b_v65 : Ref sig .tc := ⟨.hbm, 65, rfl⟩
abbrev main_while0b_v66 : Ref sig .tc := ⟨.hbm, 66, rfl⟩
abbrev main_while0b_v67 : Ref sig .tc := ⟨.hbm, 67, rfl⟩
abbrev main_while0b_v68 : Ref sig .tc := ⟨.hbm, 68, rfl⟩
abbrev main_while0b_v69 : Ref sig .tc := ⟨.hbm, 69, rfl⟩
abbrev main_while0b_v70 : Ref sig .tc := ⟨.hbm, 70, rfl⟩
abbrev main_while0b_v71 : Ref sig .tc := ⟨.hbm, 71, rfl⟩
abbrev main_while0b_v72 : Ref sig .tc := ⟨.hbm, 72, rfl⟩
abbrev main_while0b_v73 : Ref sig .tc := ⟨.hbm, 73, rfl⟩
abbrev main_while0b_v74 : Ref sig .tc := ⟨.hbm, 74, rfl⟩
abbrev main_while0b_v75 : Ref sig .tc := ⟨.hbm, 75, rfl⟩
abbrev main_while0b_v76 : Ref sig .tc := ⟨.hbm, 76, rfl⟩
abbrev main_while0b_v77 : Ref sig .tc := ⟨.hbm, 77, rfl⟩
abbrev main_while0b_v78 : Ref sig .tc := ⟨.hbm, 78, rfl⟩
abbrev main_while0b_v79 : Ref sig .tc := ⟨.hbm, 79, rfl⟩
abbrev main_while0b_v80 : Ref sig .tc := ⟨.hbm, 80, rfl⟩
abbrev main_while0b_cst_19 : Ref sig .tc := ⟨.hbm, 81, rfl⟩
abbrev main_while0b_v81 : Ref sig .tc := ⟨.hbm, 82, rfl⟩
abbrev main_while0b_v82 : Ref sig .tc := ⟨.hbm, 83, rfl⟩
abbrev main_while0b_v83 : Ref sig .tc := ⟨.hbm, 84, rfl⟩
abbrev main_while0b_cst_20 : Ref sig .tc := ⟨.hbm, 85, rfl⟩
abbrev main_while0b_v84 : Ref sig .tc := ⟨.hbm, 86, rfl⟩
abbrev main_while0b_v85 : Ref sig .tc := ⟨.hbm, 87, rfl⟩
abbrev main_while0b_v86 : Ref sig .tc := ⟨.hbm, 88, rfl⟩
abbrev main_while0b_v87 : Ref sig .tc := ⟨.hbm, 89, rfl⟩
abbrev main_while0b_v88 : Ref sig .tc := ⟨.hbm, 90, rfl⟩
abbrev main_while0b_v89 : Ref sig .tc := ⟨.hbm, 91, rfl⟩
abbrev main_while0b_v90 : Ref sig .tc := ⟨.hbm, 92, rfl⟩
abbrev main_while0b_v91 : Ref sig .tc := ⟨.hbm, 93, rfl⟩
abbrev main_while0b_v92 : Ref sig .tc := ⟨.hbm, 94, rfl⟩
abbrev main_while0b_v93 : Ref sig .tc := ⟨.hbm, 95, rfl⟩
abbrev main_while0b_cst_21 : Ref sig .tc := ⟨.hbm, 96, rfl⟩
abbrev main_while0b_v94 : Ref sig .tc := ⟨.hbm, 97, rfl⟩
abbrev main_while0b_v95 : Ref sig .tc := ⟨.hbm, 98, rfl⟩
abbrev main_while0b_v96 : Ref sig .tc := ⟨.hbm, 99, rfl⟩
abbrev main_while0b_cst_22 : Ref sig .tc := ⟨.hbm, 100, rfl⟩
abbrev main_while0b_call1_v0 : Ref sig .tc := ⟨.hbm, 101, rfl⟩
abbrev main_while0b_call1_v1 : Ref sig .tc := ⟨.hbm, 102, rfl⟩
abbrev main_while0b_v97 : Ref sig .tc := ⟨.hbm, 103, rfl⟩
abbrev main_while0b_cst_23 : Ref sig .tc := ⟨.hbm, 104, rfl⟩
abbrev main_while0b_v98 : Ref sig .tc := ⟨.hbm, 105, rfl⟩
abbrev main_while0b_v99 : Ref sig .tc := ⟨.hbm, 106, rfl⟩
abbrev main_while0b_v100 : Ref sig .tc := ⟨.hbm, 107, rfl⟩
abbrev main_while0b_v101 : Ref sig .tc := ⟨.hbm, 108, rfl⟩
abbrev main_while0b_v102 : Ref sig .tc := ⟨.hbm, 109, rfl⟩
abbrev main_while0b_cst_24 : Ref sig .tc := ⟨.hbm, 110, rfl⟩
abbrev main_while0b_call2_v0 : Ref sig .tc := ⟨.hbm, 111, rfl⟩
abbrev main_while0b_call2_v1 : Ref sig .tc := ⟨.hbm, 112, rfl⟩
abbrev main_while0b_v103 : Ref sig .tc := ⟨.hbm, 113, rfl⟩
abbrev main_while0b_v104 : Ref sig .tc := ⟨.hbm, 114, rfl⟩
abbrev main_while0b_v105 : Ref sig .tc := ⟨.hbm, 115, rfl⟩
abbrev main_while0b_v106 : Ref sig .tc := ⟨.hbm, 116, rfl⟩
abbrev main_while0b_v107 : Ref sig .tc := ⟨.hbm, 117, rfl⟩
abbrev main_while0b_v108 : Ref sig .tc := ⟨.hbm, 118, rfl⟩
abbrev main_while0b_v109 : Ref sig .tc := ⟨.hbm, 119, rfl⟩
abbrev main_while0b_cst_25 : Ref sig .tc := ⟨.hbm, 120, rfl⟩
abbrev main_while0b_call3_v0 : Ref sig .tc := ⟨.hbm, 121, rfl⟩
abbrev main_while0b_call3_v1 : Ref sig .tc := ⟨.hbm, 122, rfl⟩
abbrev main_while0b_v110 : Ref sig .tc := ⟨.hbm, 123, rfl⟩
abbrev main_while0b_cst_26 : Ref sig .tc := ⟨.hbm, 124, rfl⟩
abbrev main_while0b_call4_v0 : Ref sig .tc := ⟨.hbm, 125, rfl⟩
abbrev main_while0b_call4_v1 : Ref sig .tc := ⟨.hbm, 126, rfl⟩
abbrev main_while0b_v111 : Ref sig .tc := ⟨.hbm, 127, rfl⟩
abbrev main_while0b_call5_v0 : Ref sig .tc := ⟨.hbm, 128, rfl⟩
abbrev main_while0b_call5_c : Ref sig .tc := ⟨.hbm, 129, rfl⟩
abbrev main_while0b_call5_c_0 : Ref sig .tc := ⟨.hbm, 130, rfl⟩
abbrev main_while0b_v112 : Ref sig .tc := ⟨.hbm, 131, rfl⟩
abbrev main_while0b_call6_v0 : Ref sig .tc := ⟨.hbm, 132, rfl⟩
abbrev main_while0b_call6_c : Ref sig .tc := ⟨.hbm, 133, rfl⟩
abbrev main_while0b_call6_c_0 : Ref sig .tc := ⟨.hbm, 134, rfl⟩
abbrev main_while0b_call6_c_1 : Ref sig .tc := ⟨.hbm, 135, rfl⟩
abbrev main_while0b_v113 : Ref sig .tc := ⟨.hbm, 136, rfl⟩
abbrev main_while0b_c_27 : Ref sig .tc := ⟨.hbm, 137, rfl⟩
abbrev main_while0b_v114 : Ref sig .tc := ⟨.hbm, 138, rfl⟩
abbrev main_v22 : Ref sig .tc := ⟨.hbm, 139, rfl⟩
abbrev main_v23 : Ref sig .tc := ⟨.hbm, 140, rfl⟩
abbrev main_v24 : Ref sig .tc := ⟨.hbm, 141, rfl⟩
abbrev main_v25 : Ref sig .tc := ⟨.hbm, 142, rfl⟩
abbrev main_v26 : Ref sig .tc := ⟨.hbm, 143, rfl⟩
abbrev main_v27 : Ref sig .tc := ⟨.hbm, 144, rfl⟩
abbrev main_v28 : Ref sig .tc := ⟨.hbm, 145, rfl⟩
abbrev main_v29 : Ref sig .tc := ⟨.hbm, 146, rfl⟩
abbrev main_values : Ref sig .tc := ⟨.hbm, 147, rfl⟩
abbrev main_indices : Ref sig .tc := ⟨.hbm, 148, rfl⟩
abbrev main_v30 : Ref sig .tc := ⟨.hbm, 149, rfl⟩
abbrev main_v31 : Ref sig .tc := ⟨.hbm, 150, rfl⟩
abbrev main_v32 : Ref sig .tc := ⟨.hbm, 151, rfl⟩
abbrev main_v33 : Ref sig .tc := ⟨.hbm, 152, rfl⟩
abbrev main_v34 : Ref sig .tc := ⟨.hbm, 153, rfl⟩
abbrev main_v35 : Ref sig .tc := ⟨.hbm, 154, rfl⟩
abbrev main_v36 : Ref sig .tc := ⟨.hbm, 155, rfl⟩
abbrev main_v37 : Ref sig .tc := ⟨.hbm, 156, rfl⟩
abbrev main_v38 : Ref sig .tc := ⟨.hbm, 157, rfl⟩
abbrev main_cst_3 : Ref sig .tc := ⟨.hbm, 158, rfl⟩
abbrev main_v39 : Ref sig .tc := ⟨.hbm, 159, rfl⟩
abbrev main_v40 : Ref sig .tc := ⟨.hbm, 160, rfl⟩
abbrev main_v41 : Ref sig .tc := ⟨.hbm, 161, rfl⟩
abbrev main_cst_4 : Ref sig .tc := ⟨.hbm, 162, rfl⟩
abbrev main_call7_v0 : Ref sig .tc := ⟨.hbm, 163, rfl⟩
abbrev main_call7_v1 : Ref sig .tc := ⟨.hbm, 164, rfl⟩
abbrev main_call7_v2 : Ref sig .tc := ⟨.hbm, 165, rfl⟩
abbrev main_v42 : Ref sig .tc := ⟨.hbm, 166, rfl⟩
abbrev main_cst_5 : Ref sig .tc := ⟨.hbm, 167, rfl⟩
abbrev main_call8_v0 : Ref sig .tc := ⟨.hbm, 168, rfl⟩
abbrev main_call8_v1 : Ref sig .tc := ⟨.hbm, 169, rfl⟩
abbrev main_v43 : Ref sig .tc := ⟨.hbm, 170, rfl⟩
abbrev main_c_6 : Ref sig .tc := ⟨.hbm, 171, rfl⟩
abbrev main_call9_v0 : Ref sig .tc := ⟨.hbm, 172, rfl⟩
abbrev main_call9_v1 : Ref sig .tc := ⟨.hbm, 173, rfl⟩
abbrev main_v44 : Ref sig .tc := ⟨.hbm, 174, rfl⟩

abbrev nD : Nat := 1
abbrev τ : Topo := Topo.v7x

variable {F : FTy → Type} [FloatOps F]

abbrev main_while0_count : Scf.Loop 32 := ⟨0#32, 300#32, 1#32⟩
-- ==== Proof.Launch.lean ====
/-
  The run of a pipelined program whose output blocks are described by a relation, when the program goes on after the
  region with lines of array operations that read those outputs. The library's run for such data says nothing of what
  the later lines write; here the same region is run, and what each bypassing buffer holds at the end is stated: the
  later lines' result over SOME contents of the arrays that the relation allows.
-/
module

public import Idealize.ShloMosaic.Lib.Pipeline.FrameSuffix
public import Idealize.ShloMosaic.Lib.Pipeline.DatRel
public import Idealize.ShloMosaic.Lib.Pipeline.ArrRel

@[expose] public section

noncomputable section

namespace Cert.Proof.Launch

open Idealize.ShloMosaic Idealize.ShloMosaic.Pipeline Idealize.ShloMosaic.Rounds
open Idealize.SL
open Idealize.SL.BI (sProp bigSep)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : Labels} {P : Type} [Fintype P] [DecidableEq P]
variable [∀ e, Nonempty (Val e)]
variable (cfgs : P → Cfg sig Λ₀) (p : P) (kit : LaunchFacts (nD := nD) (τ := τ) cfgs p) (defs₀ : Defs nD τ sig Val Λ₀) (𝒱₀ : Variants)

local notation "𝕄" => MT nD τ sig Unit Val ℕ (UR sig nD τ) ℕ
local notation "pcs" => fun q => Cfg.toPCfg (Val := Val) (cfgs q)
local notation "adm" => fun q => Cfg.toPCfg_adm (Val := Val) (cfgs q)

/-- What the program leaves on core `c`: for some contents `A` of the pipeline's arrays that the relation allows, every
    buffer the region does not touch holds what the later lines `opss` compute from `A` and the entry contents `V₀`. -/
def TailPost (rdat : (c : Dev nD) → RDat τ Val Unit ℕ (UR sig nD τ) ℕ (cfgs p) c) (V₀ : Dev nD → Valuation τ sig Val)
    (opss : List (List (HloOp τ sig Val))) (s : MemSt nD τ sig Val) (c : Dev nD) : Prop :=
  ∃ A : (w : Fin (cfgs p).W) → Buf Val (((cfgs p).spec w).arr.view.loc (c.tc : Thread nD τ)),
    (∀ w, (rdat c).ArrAt w (cfgs p).N (A w)) ∧
    ∀ b ∈ restRefsP sig Prefetch.none (cfgs p).spec, s.mem ((c.tc : Thread nD τ).loc b)
      = StableHlo.after opss.flatten (withArrays (cfgs p).spec c (V₀ c) A) (Proc.devRef .tc b)

include kit in
/-- The run, with the later lines' results: from any memory with zero counters every execution ends, with every counter
    at zero and `TailPost` on every core. -/
theorem run_tail (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c) :
    θ_run (Pipeline.defs pcs defs₀) (onTc main) ⟨m, fun _ => 0, g⟩
      (fun r => (∀ c, TailPost cfgs p rdat V₀ opss r.2 c) ∧ r.2.sem = fun _ => 0) := by
  classical
  have kit₀ : PLaunchFacts₀ (nD := nD) (τ := τ) pcs p := kit.toP.to₀
  have hq : ∀ c w, ((cfgs p).spec w).isOut = false → (rdat c).q w = shareOf (cfgs p).spec w := fun c w hw =>
    (rdat c).q_eq_shareOf_of_share_full kit.win.arr_inj (hshare c) w hw
  let V : (c : Dev nD) → (b : Ref sig .tc) → Buf Val ((c.tc : Thread nD τ).loc b) := fun c b => V₀ c (Proc.devRef .tc b)
  -- the arrays after the last write-back: at some contents the relation allows, and back
  have open_arrays : ∀ c, ((RDat.familyOf pcs adm p rdat p c).arraysAt (cfgs p).N : sProp 𝕄)
      ⊢ iprop(∃ A, ⌜∀ w, (rdat c).ArrAt w (cfgs p).N (A w)⌝ ∗ (rdat c).arrays A) := fun c => by
    rw [RDat.familyOf_self]; unfold RDat.arraysAt
    iintro H
    ihave H1 := (BI.bigSep_exists_pi Finset.univ (fun w G => iprop(⌜(rdat c).ArrAt w (cfgs p).N G⌝
        ∗ ((cfgs p).win w).arr.view.loc (c.tc : Thread nD τ) ↦[((cfgs p).win w).arr.view.set]{(rdat c).share w} G))) $$ H
    icases H1 with ⟨%A, H⟩
    ihave H2 := (BI.bigSep_pure_sep Finset.univ (fun w => (rdat c).ArrAt w (cfgs p).N (A w))
        (fun w => ((cfgs p).win w).arr.view.loc (c.tc : Thread nD τ) ↦[((cfgs p).win w).arr.view.set]{(rdat c).share w} A w)) $$ H
    icases H2 with ⟨%h, H⟩
    iexists A; isplitr; · ipureintro; exact fun w => h w (Finset.mem_univ w)
    unfold RDat.arrays
    iexact H
  have close_arrays : ∀ c A, (∀ w, (rdat c).ArrAt w (cfgs p).N (A w)) →
      ((rdat c).arrays A : sProp 𝕄) ⊢ (RDat.familyOf pcs adm p rdat p c).arraysAt (cfgs p).N := fun c A h => by
    rw [RDat.familyOf_self]; unfold RDat.arraysAt RDat.arrays
    refine BI.bigSep_mono fun w _ => ?_
    show (((cfgs p).win w).arr.view.loc (c.tc : Thread nD τ) ↦[((cfgs p).win w).arr.view.set]{(rdat c).share w} A w : sProp 𝕄)
      ⊢ iprop(∃ G, ⌜(rdat c).ArrAt w (cfgs p).N G⌝ ∗ ((cfgs p).win w).arr.view.loc (c.tc : Thread nD τ) ↦[((cfgs p).win w).arr.view.set]{(rdat c).share w} G)
    iintro H; iexists (A w); isplitr; · ipureintro; exact h w
    iexact H
  exact RDat.θ_run_region_pf_tail_quiescent pcs adm (RDat.familyOf pcs adm p rdat) () (kit₀.cellOf_inj adm) p kit₀.win
    (OwnSemFacts.none (cfgs p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (G := fun _ => iprop(emp)) (u₀ := initOf (cells (pin pcs adm) (kit₀.cellOf_inj adm)) (launchToks (pin pcs adm) (kit₀.cellOf_inj adm)))
    (hu₀ := by
      iintro Hu; imodintro
      isplitl [Hu]; · iapply (show (ownU _ : sProp 𝕄) ⊢ BI.own (emb₁ (initOf (cells (pin pcs adm) (kit₀.cellOf_inj adm)) (launchToks (pin pcs adm) (kit₀.cellOf_inj adm)))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact (rdat c).arrays_split_shared kit₀.sharedIn kit₀.arr_whole (hq c) (V c) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfgs p).spec c (V c))
    (Z' := fun c => iprop(∃ A, ⌜∀ w, (rdat c).ArrAt w (cfgs p).N (A w)⌝
      ∗ unscopedRestP (Ix := Unit) (Name := ℕ) (U := UR sig nD τ) (Lvl := ℕ) Prefetch.none (cfgs p).spec c
          (fun b => StableHlo.after opss.flatten (withArrays (cfgs p).spec c (V₀ c) A) (Proc.devRef .tc b))))
    (hX := fun c => by
      iintro ⟨HU, -, -, Hp, -⟩; imodintro
      isplitl [Hp]; · iexists _; iexact Hp
      iexact HU)
    (hin := fun c => by
      rw [RDat.familyOf_self, hΦ c 0]
      unfold ΦA; iintro ⟨Hp, -, Hr⟩
      isplitl [Hr] <;> iassumption)
    (hout := fun c => by
      rw [RDat.familyOf_self, hΦ c _, ownSems0_none]; unfold ΦA
      iintro ⟨Hr, Hp⟩
      isplitl [Hp]; · iexact Hp
      isplitr; · iempintro
      iexact Hr)
    (htail := fun c Q' => by
      iintro ⟨Hk, Hb, Ha, HZ⟩
      ihave Ha' := (open_arrays c) $$ Ha
      icases Ha' with ⟨%A, %h, Ha⟩
      have hB : (rdat c).arrays A = arrBufs (cfgs p).spec c (fun b => withArrays (cfgs p).spec c (V₀ c) A (Proc.devRef .tc b)) :=
        ((rdat c).arrBufs_eq_arrays kit₀.sharedIn kit₀.arr_whole (hq c) _ A fun w =>
          (withArrays_arr_shared (cfgs p).spec c (V₀ c) A ((rdat c).ArrAt_sharedIn kit₀.sharedIn (V₀ c) (hA c) (cfgs p).N A h) w).symm).symm
      iapply (tail_seqs_bufs_b pcs defs₀ 𝒱₀ Prefetch.none (cfgs p).spec c (V₀ c) A opss hsub hfresh hkeep Q')
      isplitl [Hk]
      · iintro ⟨Hb2, Ha2, Hu⟩
        iapply Hk
        isplitl [Hb2]; · iexact Hb2
        isplitl [Ha2]; · iapply (close_arrays c A h); iapply (Entails.of_eq hB.symm); iexact Ha2
        iexists A; isplitr
        · ipureintro; exact h
        · iexact Hu
      · isplitl [Hb]; · iexact Hb
        isplitl [Ha]; · iapply (Entails.of_eq hB); iexact Ha
        iexact HZ)
    (QY := fun c s => TailPost cfgs p rdat V₀ opss s c)
    (hY := fun c s' => by
      iintro ⟨-, HZ, HSI⟩
      icases HZ with ⟨%A, %h, HZ⟩
      unfold unscopedRestP
      ihave HZ' := (pointsTo_read_all (restRefsP sig Prefetch.none (cfgs p).spec) (fun b => (c.tc : Thread nD τ).loc b)
        (fun b => StableHlo.after opss.flatten (withArrays (cfgs p).spec c (V₀ c) A) (Proc.devRef .tc b)) s') $$ [HZ HSI]
      · isplitl [HZ] <;> iassumption
      icases HZ' with ⟨%hZ, HSI⟩
      imodintro
      isplitr
      · ipureintro; exact ⟨A, h, hZ⟩
      · iexact HSI)
    (hQ := fun s h hz => ⟨fun c => (h c).2.2, hz⟩)

end Cert.Proof.Launch

end
-- ==== Proof.KI.Loops.lean ====
/-
  What the kernel's two counted loops compute, and their invariants.

  The first loop (`k0_t1`) keeps the working scores of the 40 rows and the five tables of selections; the second (`k0_t2`)
  empties the table of selected scores and writes one row of each result per trip. Both are stated as iterates of a plain
  step function on values, for every reading `F` of the floats.
-/
module

public import proofs.«01_k».proof.Proof.K.Run
public import proofs.«01_k».proof.Proof.Gen.KernelIdeal
public import proofs.«01_k».proof.Proof.Gen.KernelIdeal.Skeleton
public import proofs.«01_k».proof.Proof.Gen.KernelIdeal.Loops
public import Idealize.ShloMosaic.Lib.Pipeline.Value
public import Idealize.ShloMosaic.Lib.WritesUnit

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev UU (nD : Nat) (τ : Topo) : Type := UR sig nD τ
abbrev 𝒱₀ : Variants := Variants.none

local notation "𝕄" => MT nD τ sig Unit (Elt F) ℕ (UR sig nD τ) ℕ

/-! ## The values -/

theorem trips1 : k0_t1_loop.trips = 300 := by decide
theorem trips2 : k0_t2_loop.trips = 300 := by decide

/-- The state of the first loop: the working scores, and the tables of the selected scores and box corners. -/
structure L1 (F : FTy → Type) where
  s : FVec F S40x5120 .f32
  ss : FVec F S40x304 .f32
  x1 : FVec F S40x304 .f32
  y1 : FVec F S40x304 .f32
  x2 : FVec F S40x304 .f32
  y2 : FVec F S40x304 .f32

section Values

variable (v0 : IVec S40x5120 32) (v1 : IVec S40x304 32) (v3 v5 v7 v9 : FVec F S40x5120 .f32) (v45 : Vec F S40x5120 .f32)

/-- Trip `k` of the first loop. -/
def step1 (k : ℕ) (st : L1 F) : L1 F where
  s := k0_pay11 v45 st.s (k0_pay3 v0 st.s) (k0_pay4 v0 v3 st.s) (k0_pay5 v0 v5 st.s) (k0_pay6 v0 v7 st.s) (k0_pay7 v0 v9 st.s)
    (k0_pay8 st.s) (k0_pay9 v0 v3 v7 st.s) (k0_pay10 v0 v5 v9 st.s)
  ss := k0_pay13 v1 (Scf.iv 0#32 1#32 k) (k0_pay2 st.s) st.ss
  x1 := k0_pay14 v1 (Scf.iv 0#32 1#32 k) (k0_pay4 v0 v3 st.s) st.x1
  y1 := k0_pay15 v1 (Scf.iv 0#32 1#32 k) (k0_pay5 v0 v5 st.s) st.y1
  x2 := k0_pay60 (k0_pay6 v0 v7 st.s) (k0_pay12 v1 (Scf.iv 0#32 1#32 k)) st.x2
  y2 := k0_pay61 (k0_pay7 v0 v9 st.s) (k0_pay12 v1 (Scf.iv 0#32 1#32 k)) st.y2

/-- The state before trip `k`, from `st`. -/
def it1 (st : L1 F) : ℕ → L1 F
  | 0 => st
  | k + 1 => step1 v0 v1 v3 v5 v7 v9 v45 k (it1 st k)

end Values

section Values2

variable (v50 : IVec S40x304 32) (v51 : IVec S1x8 32) (v52 : IVec S1x4 32) (v54 v56 : IVec S40x304 1) (v57 v58 v59 v60 : Vec F S40x304 .f32)

/-- The box of the first image written from the table `s` of selected scores. -/
def boxA (s : FVec F S40x304 .f32) : FVec F S1x1x4 .f32 :=
  k0_pay29 (k0_pay21 v57 (k0_pay19 v50 v54 s)) (k0_pay22 (k0_pay17 v54 s)) (k0_pay25 v52) (k0_pay26 v52)
    (k0_pay27 v52 v59 v60 (k0_pay19 v50 v54 s)) (k0_pay28 v58 (k0_pay19 v50 v54 s))

/-- The box of the second image. -/
def boxB (s : FVec F S40x304 .f32) : FVec F S1x1x4 .f32 :=
  k0_pay44 v52 (k0_pay36 v57 (k0_pay33 v50 v56 s)) (k0_pay37 v58 (k0_pay33 v50 v56 s)) (k0_pay38 v59 (k0_pay33 v50 v56 s))
    (k0_pay39 v60 (k0_pay33 v50 v56 s)) (k0_pay40 (k0_pay31 v56 s)) k0_pay43

/-- The row of scores of the two images. -/
def scoreRow (s : FVec F S40x304 .f32) : FVec F S1x8 .f32 :=
  k0_pay46 v51 (k0_pay23 (k0_pay17 v54 s)) (k0_pay41 (k0_pay31 v56 s))

/-- The row of labels of the two images. -/
def labelRow (s : FVec F S40x304 .f32) : IVec S1x8 32 :=
  k0_pay1 (k0_pay24 (k0_pay17 v54 s) (k0_pay20 v50 v54 s))
    (k0_pay42 (k0_pay31 v56 s) (k0_pay32 v50 v56 s) 304#32 (k0_pay34 v50 v56 s) (k0_pay35 v50 v56 s)) (k0_pay47 v51) (k0_pay48 v51)

/-- The table of selected scores after a trip of the second loop: the two selected entries removed. -/
def step2 (s : FVec F S40x304 .f32) : FVec F S40x304 .f32 :=
  k0_pay45 s (k0_pay19 v50 v54 s) (k0_pay33 v50 v56 s)

/-- The table before trip `k`, from `s`. -/
def it2 (s : FVec F S40x304 .f32) : ℕ → FVec F S40x304 .f32
  | 0 => s
  | k + 1 => step2 v50 v54 v56 (it2 s k)

end Values2

/-! ## Reads of what one store left -/

theorem hz2 : (![0, 0] : Fin 2 → Nat) = fun _ => 0 := by funext a; fin_cases a <;> rfl

/-- A load of a whole rank-2 buffer reads its contents. -/
theorem readAt_whole {S : Shape} {e : EltTy} (v : View sig .tc .vmem S e) (f : v.ty.Contents (Elt F)) {off : Fin S.rank → Nat}
    (h : off = fun _ => 0) (inb : ∀ a, off a + S.size a ≤ S.size a) :
    v.readAt (Elt F) (Rect.unit off S.size inb).toLoadRect f = v.read (Elt F) f :=
  View.ld_unit_zero (Val := Elt F) h inb (v.read (Elt F) f)

/-- After a store to the whole buffer, that is what it holds. -/
theorem read_writes_whole {S : Shape} {e : EltTy} (v : View sig .tc .vmem S e) (f : v.ty.Contents (Elt F)) {off : Fin S.rank → Nat}
    (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  funext y
  exact View.read_writes_cons_unit_of_mem v f inb w L y y h (fun a => (Nat.zero_add _).symm)

section Loops

variable (c : Dev nD)
  (arg0 : Memref sig .tc .vmem S40x5120 .f32) (harg0 : arg0.IsWhole)
  (arg1 : Memref sig .tc .vmem S40x5120 .f32) (harg1 : arg1.IsWhole)
  (arg2 : Memref sig .tc .vmem S40x5120 .f32) (harg2 : arg2.IsWhole)
  (arg3 : Memref sig .tc .vmem S40x5120 .f32) (harg3 : arg3.IsWhole)
  (arg4 : Memref sig .tc .vmem S40x5120 .f32) (harg4 : arg4.IsWhole)
  (arg5 : Memref sig .tc .vmem S2x304x4 .f32) (harg5 : arg5.IsWhole)
  (arg6 : Memref sig .tc .vmem S304x8 .f32) (harg6 : arg6.IsWhole)
  (arg7 : Memref sig .tc .vmem S304x8 .i32) (harg7 : arg7.IsWhole)
  (arg8 : Memref sig .tc .vmem S40x5120 .f32) (harg8 : arg8.IsWhole)
  (arg9 : Memref sig .tc .vmem S40x5120 .f32) (harg9 : arg9.IsWhole)
  (arg10 : Memref sig .tc .vmem S40x304 .f32) (harg10 : arg10.IsWhole)
  (arg11 : Memref sig .tc .vmem S40x304 .f32) (harg11 : arg11.IsWhole)
  (arg12 : Memref sig .tc .vmem S40x304 .f32) (harg12 : arg12.IsWhole)
  (arg13 : Memref sig .tc .vmem S40x304 .f32) (harg13 : arg13.IsWhole)
  (arg14 : Memref sig .tc .vmem S40x304 .f32) (harg14 : arg14.IsWhole)

/-! ## The first loop -/

section One

variable (v0 : IVec S40x5120 32) (v1 : IVec S40x304 32) (v3 v5 v7 v9 : FVec F S40x5120 .f32) (cst_20 : F .f32) (v45 : Vec F S40x5120 .f32)

/-- What a trip of the first loop works on: the working scores and the five tables of selections. -/
def own1 (st : L1 F) : sProp 𝕄 :=
  iprop(owns (c : Thread nD τ) arg8 fullShare st.s ∗ owns (c : Thread nD τ) arg10 fullShare st.ss ∗ owns (c : Thread nD τ) arg11 fullShare st.x1 ∗ owns (c : Thread nD τ) arg12 fullShare st.y1 ∗ owns (c : Thread nD τ) arg13 fullShare st.x2 ∗ owns (c : Thread nD τ) arg14 fullShare st.y2)

/-- One trip of the first loop takes the state to the next. -/
theorem trip1 (k : Fin k0_t1_loop.trips) (st : L1 F) :
    own1 c arg8 arg10 arg11 arg12 arg13 arg14 st ⊢ wp frame (wpE (defs₀ (F := F)) 𝒱₀ (c : Thread nD τ) none) Set.univ
      (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0 v1 v3 v5 v7 v9 cst_20 v45 k ⟨⟩)
      (fun _ => own1 c arg8 arg10 arg11 arg12 arg13 arg14 (step1 v0 v1 v3 v5 v7 v9 v45 k.val st)) := by
  have hk : k.val < 300 := Nat.lt_of_lt_of_le k.isLt k0_t1_abs.2.1
  unfold own1 owns
  iintro ⟨⟨%f8, %h8, H8⟩, ⟨%f10, %h10, H10⟩, ⟨%f11, %h11, H11⟩, ⟨%f12, %h12, H12⟩, ⟨%f13, %h13, H13⟩, ⟨%f14, %h14, H14⟩⟩
  unfold k0_t1_body
  sl_exec
  sl_step
  have r8 := (readAt_whole (F := F) arg8.view f8 hz2 inb_S40x5120_S40x5120_0_0).trans h8
  have r10 := (readAt_whole (F := F) arg10.view f10 hz2 inb_S40x304_S40x304_0_0).trans h10
  have r11 := (readAt_whole (F := F) arg11.view f11 hz2 inb_S40x304_S40x304_0_0).trans h11
  have r12 := (readAt_whole (F := F) arg12.view f12 hz2 inb_S40x304_S40x304_0_0).trans h12
  have r13 := (readAt_whole (F := F) arg13.view f13 hz2 inb_S40x304_S40x304_0_0).trans h13
  have r14 := (readAt_whole (F := F) arg14.view f14 hz2 inb_S40x304_S40x304_0_0).trans h14
  simp only [step1]
  rw [← r8, ← r10, ← r11, ← r12, ← r13, ← r14]
  isplitl [H8]
  · iexists _; isplitr
    swap; · iexact H8
    ipureintro; exact read_writes_whole arg8.view f8 hz2 _ _ _
  isplitl [H10]
  · iexists _; isplitr
    swap; · iexact H10
    ipureintro; exact read_writes_whole arg10.view f10 hz2 _ _ _
  isplitl [H11]
  · iexists _; isplitr
    swap; · iexact H11
    ipureintro; exact read_writes_whole arg11.view f11 hz2 _ _ _
  isplitl [H12]
  · iexists _; isplitr
    swap; · iexact H12
    ipureintro; exact read_writes_whole arg12.view f12 hz2 _ _ _
  isplitl [H13]
  · iexists _; isplitr
    swap; · iexact H13
    ipureintro; exact read_writes_whole arg13.view f13 hz2 _ _ _
  iexists _; isplitr
  swap; · iexact H14
  ipureintro; exact read_writes_whole arg14.view f14 hz2 _ _ _

/-- The whole first loop at the head of a program. -/
theorem loop1 (st : L1 F) {β : Type} {kk : Unit → Prog (TpuEff nD τ sig (Elt F) Λ₀ .tc) β} {Q : β → sProp 𝕄} :
    own1 c arg8 arg10 arg11 arg12 arg13 arg14 st ⊢ iprop((own1 c arg8 arg10 arg11 arg12 arg13 arg14 (it1 v0 v1 v3 v5 v7 v9 v45 st 300)
        -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0 v1 v3 v5 v7 v9 cst_20 v45) >>= kk) Q) := by
  iintro H HK
  iapply (Scf.wp_for_bind Idealize.ShloMosaic.frame (wpE (defs₀ (F := F)) 𝒱₀ (c : Thread nD τ) none) Set.univ k0_t1_loop.lb k0_t1_loop.ub k0_t1_loop.st k0_t1_ok
    PUnit.unit (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v0 v1 v3 v5 v7 v9 cst_20 v45)
    (fun n _ => own1 c arg8 arg10 arg11 arg12 arg13 arg14 (it1 v0 v1 v3 v5 v7 v9 v45 st n))
    (fun k _ => trip1 c arg0 harg0 arg1 harg1 arg2 harg2 arg3 harg3 arg4 harg4 arg5 harg5 arg6 harg6 arg7 harg7 arg8 harg8 arg9 harg9 arg10 harg10 arg11 harg11 arg12 harg12 arg13 harg13 arg14 harg14 v0 v1 v3 v5 v7 v9 cst_20 v45 k (it1 v0 v1 v3 v5 v7 v9 v45 st k.val))) $$ [H]
  · iexact H
  iintro %_ Hinv
  rw [show Scf.trips k0_t1_loop.lb k0_t1_loop.ub k0_t1_loop.st = 300 from trips1]
  iapply HK; iexact Hinv

end One

/-! ## The second loop -/

section Two

variable (v50 : IVec S40x304 32) (v51 : IVec S1x8 32) (v52 : IVec S1x4 32) (v54 v56 : IVec S40x304 1)
  (v57 v58 v59 v60 : Vec F S40x304 .f32) (c0 : BitVec 32) (s0 : FVec F S40x304 .f32)

/-- The boxes' rows below `n` are the ones selected. -/
def Rows5 (n : ℕ) (X : S2x304x4.Idx → F .f32) : Prop :=
  ∀ (y : S2x304x4.Idx) (x : S1x1x4.Idx), (y (1 : Fin 3)).val < n → (x (2 : Fin 3)).val = (y (2 : Fin 3)).val →
    X y = if (y (0 : Fin 3)).val = 0 then boxA v50 v52 v54 v57 v58 v59 v60 (it2 v50 v54 v56 s0 (y (1 : Fin 3)).val) x
      else boxB v50 v52 v56 v57 v58 v59 v60 (it2 v50 v54 v56 s0 (y (1 : Fin 3)).val) x

/-- The scores' rows below `n` are the ones selected. -/
def Rows6 (n : ℕ) (X : S304x8.Idx → F .f32) : Prop :=
  ∀ (y : S304x8.Idx) (x : S1x8.Idx), (y (0 : Fin 2)).val < n → (x (1 : Fin 2)).val = (y (1 : Fin 2)).val →
    X y = scoreRow v51 v54 v56 (it2 v50 v54 v56 s0 (y (0 : Fin 2)).val) x

/-- The labels' rows below `n` are the ones selected. -/
def Rows7 (n : ℕ) (X : S304x8.Idx → BitVec 32) : Prop :=
  ∀ (y : S304x8.Idx) (x : S1x8.Idx), (y (0 : Fin 2)).val < n → (x (1 : Fin 2)).val = (y (1 : Fin 2)).val →
    X y = labelRow v50 v51 v54 v56 (it2 v50 v54 v56 s0 (y (0 : Fin 2)).val) x

theorem rows5_succ (k : Fin k0_t2_loop.trips) (v : View sig .tc .vmem S2x304x4 .f32) (f : v.ty.Contents (Elt F))
    (h : Rows5 v50 v52 v54 v56 v57 v58 v59 v60 s0 k.val (v.read (Elt F) f)) :
    Rows5 v50 v52 v54 v56 v57 v58 v59 v60 s0 (k.val + 1) (v.read (Elt F) (v.writes (Elt F) f
      [(⟨Rect.unit (k0_off2 k) S1x1x4.size (k0_off2_inb k), boxB v50 v52 v56 v57 v58 v59 v60 (it2 v50 v54 v56 s0 k.val)⟩ : View.Piece (Elt F) S2x304x4 .f32),
       ⟨Rect.unit (k0_off1 k) S1x1x4.size (k0_off1_inb k), boxA v50 v52 v54 v57 v58 v59 v60 (it2 v50 v54 v56 s0 k.val)⟩])) := by
  intro y x hy hx
  have x0 : (x (0 : Fin 3)).val = 0 := Nat.lt_one_iff.mp (x (0 : Fin 3)).isLt
  have x1 : (x (1 : Fin 3)).val = 0 := Nat.lt_one_iff.mp (x (1 : Fin 3)).isLt
  have y0 : (y (0 : Fin 3)).val < 2 := (y (0 : Fin 3)).isLt
  rcases Nat.lt_succ_iff_lt_or_eq.mp hy with hlt | heq
  · rw [View.read_writes_cons_unit_of_not_mem v f _ _ _ y (k0_off2_eq k) (1 : Fin 3) (Or.inl hlt),
      View.read_writes_cons_unit_of_not_mem v f _ _ _ y (k0_off1_eq k) (1 : Fin 3) (Or.inl hlt)]
    exact h y x hlt hx
  · by_cases h0 : (y (0 : Fin 3)).val = 0
    · rw [if_pos h0, heq, View.read_writes_cons_unit_of_not_mem v f _ _ _ y (k0_off2_eq k) (0 : Fin 3)
        (Or.inl (show (y (0 : Fin 3)).val < 1 by omega))]
      refine View.read_writes_cons_unit_of_mem v f _ _ _ y x (k0_off1_eq k) fun a => ?_
      match a with
      | ⟨0, _⟩ => exact h0.trans (show 0 = 0 + (x (0 : Fin 3)).val by omega)
      | ⟨1, _⟩ => exact heq.trans (show k.val = k.val + (x (1 : Fin 3)).val by omega)
      | ⟨2, _⟩ => exact hx.symm.trans (Nat.zero_add _).symm
    · rw [if_neg h0, heq]
      refine View.read_writes_cons_unit_of_mem v f _ _ _ y x (k0_off2_eq k) fun a => ?_
      match a with
      | ⟨0, _⟩ => exact (show (y (0 : Fin 3)).val = 1 + (x (0 : Fin 3)).val by omega)
      | ⟨1, _⟩ => exact heq.trans (show k.val = k.val + (x (1 : Fin 3)).val by omega)
      | ⟨2, _⟩ => exact hx.symm.trans (Nat.zero_add _).symm

/-- A store of row `k` of a buffer whose rows are eight wide. -/
theorem row8_succ {e : EltTy} (k : Fin k0_t2_loop.trips) (v : View sig .tc .vmem S304x8 e) (f : v.ty.Contents (Elt F))
    (row : ℕ → S1x8.Idx → Elt F e)
    (h : ∀ (y : S304x8.Idx) (x : S1x8.Idx), (y (0 : Fin 2)).val < k.val → (x (1 : Fin 2)).val = (y (1 : Fin 2)).val →
      v.read (Elt F) f y = row (y (0 : Fin 2)).val x) :
    ∀ (y : S304x8.Idx) (x : S1x8.Idx), (y (0 : Fin 2)).val < k.val + 1 → (x (1 : Fin 2)).val = (y (1 : Fin 2)).val →
      v.read (Elt F) (v.writes (Elt F) f [(⟨Rect.unit (k0_off3 k) S1x8.size (k0_off3_inb k), row k.val⟩ : View.Piece (Elt F) S304x8 e)]) y
        = row (y (0 : Fin 2)).val x := by
  intro y x hy hx
  have x0 : (x (0 : Fin 2)).val = 0 := Nat.lt_one_iff.mp (x (0 : Fin 2)).isLt
  rcases Nat.lt_succ_iff_lt_or_eq.mp hy with hlt | heq
  · rw [View.read_writes_cons_unit_of_not_mem v f _ _ _ y (k0_off3_eq k) (0 : Fin 2) (Or.inl hlt)]
    exact h y x hlt hx
  · rw [heq]
    refine View.read_writes_cons_unit_of_mem v f _ _ _ y x (k0_off3_eq k) fun a => ?_
    match a with
    | ⟨0, _⟩ => exact heq.trans (show k.val = k.val + (x (0 : Fin 2)).val by omega)
    | ⟨1, _⟩ => exact hx.symm.trans (Nat.zero_add _).symm

/-- What a trip of the second loop works on. -/
def own2 (n : ℕ) : sProp 𝕄 :=
  iprop((∃ X, ⌜Rows5 v50 v52 v54 v56 v57 v58 v59 v60 s0 n X⌝ ∗ owns (c : Thread nD τ) arg5 fullShare X)
    ∗ (∃ X, ⌜Rows6 v50 v51 v54 v56 s0 n X⌝ ∗ owns (c : Thread nD τ) arg6 fullShare X)
    ∗ (∃ X, ⌜Rows7 v50 v51 v54 v56 s0 n X⌝ ∗ owns (c : Thread nD τ) arg7 fullShare X)
    ∗ owns (c : Thread nD τ) arg10 fullShare (it2 v50 v54 v56 s0 n))

/-- One trip of the second loop writes its rows and takes the table to the next. -/
theorem trip2 (k : Fin k0_t2_loop.trips) :
    own2 c arg5 arg6 arg7 arg10 v50 v51 v52 v54 v56 v57 v58 v59 v60 s0 k.val ⊢ wp frame (wpE (defs₀ (F := F)) 𝒱₀ (c : Thread nD τ) none) Set.univ
      (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v50 v51 v52 v54 v56 v57 v58 v59 v60 c0 k ⟨⟩)
      (fun _ => own2 c arg5 arg6 arg7 arg10 v50 v51 v52 v54 v56 v57 v58 v59 v60 s0 (k.val + 1)) := by
  have hk : k.val < 300 := Nat.lt_of_lt_of_le k.isLt k0_t2_abs.2.1
  unfold own2 owns
  iintro ⟨⟨%X5, %R5, %f5, %h5, H5⟩, ⟨%X6, %R6, %f6, %h6, H6⟩, ⟨%X7, %R7, %f7, %h7, H7⟩, ⟨%f10, %h10, H10⟩⟩
  subst h5 h6 h7
  unfold k0_t2_body
  sl_exec
  sl_step
  have r10 := (readAt_whole (F := F) arg10.view f10 hz2 inb_S40x304_S40x304_0_0).trans h10
  have e5 := rows5_succ v50 v52 v54 v56 v57 v58 v59 v60 s0 k arg5.view f5 R5
  have e6 := row8_succ (F := F) k arg6.view f6 (fun n => scoreRow v51 v54 v56 (it2 v50 v54 v56 s0 n)) R6
  have e7 := row8_succ (F := F) k arg7.view f7 (fun n => labelRow v50 v51 v54 v56 (it2 v50 v54 v56 s0 n)) R7
  simp only [it2, step2]
  simp only [← r10] at e5 e6 e7 ⊢
  isplitl [H5]
  · iexists _; isplitr
    · ipureintro; exact e5
    · iexists _; isplitr
      swap; · iexact H5
      ipureintro; rfl
  isplitl [H6]
  · iexists _; isplitr
    · ipureintro; exact e6
    · iexists _; isplitr
      swap; · iexact H6
      ipureintro; rfl
  isplitl [H7]
  · iexists _; isplitr
    · ipureintro; exact e7
    · iexists _; isplitr
      swap; · iexact H7
      ipureintro; rfl
  iexists _; isplitr
  swap; · iexact H10
  ipureintro; exact read_writes_whole arg10.view f10 hz2 _ _ _

/-- The whole second loop at the head of a program. -/
theorem loop2 {β : Type} {kk : Unit → Prog (TpuEff nD τ sig (Elt F) Λ₀ .tc) β} {Q : β → sProp 𝕄} :
    own2 c arg5 arg6 arg7 arg10 v50 v51 v52 v54 v56 v57 v58 v59 v60 s0 0
      ⊢ iprop((own2 c arg5 arg6 arg7 arg10 v50 v51 v52 v54 v56 v57 v58 v59 v60 s0 300
        -∗ wp frame (wpE (defs₀ (F := F)) 𝒱₀ (c : Thread nD τ) none) Set.univ (kk ⟨⟩) Q)
      -∗ wp frame (wpE (defs₀ (F := F)) 𝒱₀ (c : Thread nD τ) none) Set.univ
        (Scf.Loop.for k0_t2_loop k0_t2_ok ⟨⟩ (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v50 v51 v52 v54 v56 v57 v58 v59 v60 c0) >>= kk) Q) := by
  iintro H HK
  iapply (Scf.wp_for_bind Idealize.ShloMosaic.frame (wpE (defs₀ (F := F)) 𝒱₀ (c : Thread nD τ) none) Set.univ k0_t2_loop.lb k0_t2_loop.ub k0_t2_loop.st k0_t2_ok
    PUnit.unit (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 v50 v51 v52 v54 v56 v57 v58 v59 v60 c0)
    (fun n _ => own2 c arg5 arg6 arg7 arg10 v50 v51 v52 v54 v56 v57 v58 v59 v60 s0 n)
    (fun k _ => trip2 c arg0 harg0 arg1 harg1 arg2 harg2 arg3 harg3 arg4 harg4 arg5 harg5 arg6 harg6 arg7 harg7 arg8 harg8 arg9 harg9 arg10 harg10 arg11 harg11 arg12 harg12 arg13 harg13 arg14 harg14 v50 v51 v52 v54 v56 v57 v58 v59 v60 c0 s0 k)) $$ [H]
  · iexact H
  iintro %_ Hinv
  rw [show Scf.trips k0_t2_loop.lb k0_t2_loop.ub k0_t2_loop.st = 300 from trips2]
  iapply HK; iexact Hinv

end Two

end Loops

end Cert.Proof.KernelIdeal

end
-- ==== Proof.KI.Body.lean ====
/-
  One run of the kernel's body: from the five inputs, the three results' rows below 300.
-/
module

public import proofs.«01_k».proof.Proof.KI.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values of the whole body -/

section Values

variable (X0 X1 X2 X3 X4 : FVec F S40x5120 .f32)

/-- The lane numbers of a row of scores. -/
def lane5120 : IVec S40x5120 32 := iota .tc S40x5120 32 [1] iota_S40x5120_d1_w32
/-- The lane numbers of a row of selections. -/
def lane304 : IVec S40x304 32 := iota .tc S40x304 32 [1] iota_S40x304_d1_w32
def lane8 : IVec S1x8 32 := iota .tc S1x8 32 [1] iota_S1x8_d1_w32
def lane4 : IVec S1x4 32 := iota .tc S1x4 32 [1] iota_S1x4_d1_w32

/-- The state the first loop starts from. -/
def start1 : L1 F := ⟨k0_pay53 X0, k0_pay55, k0_pay56, k0_pay57 (Scalar.ofBits .f32 0x00000000#32), k0_pay58, k0_pay59⟩

/-- The state before trip `n` of the first loop. -/
def state1 (n : ℕ) : L1 F :=
  it1 lane5120 lane304 (k0_pay49 X1) (k0_pay50 X2) (k0_pay51 X3) (k0_pay52 X4) (k0_pay54 X1 X2 X3 X4) (start1 X0) n

/-- The boxes the body leaves: rows below 300. -/
def Out5 (X : S2x304x4.Idx → F .f32) : Prop :=
  Rows5 (k0_pay62 lane304) lane4 k0_pay63 k0_pay64 (state1 X0 X1 X2 X3 X4 300).x1 (state1 X0 X1 X2 X3 X4 300).y1
    (state1 X0 X1 X2 X3 X4 300).x2 (state1 X0 X1 X2 X3 X4 300).y2 (state1 X0 X1 X2 X3 X4 300).ss 300 X
/-- The scores it leaves. -/
def Out6 (X : S304x8.Idx → F .f32) : Prop :=
  Rows6 (k0_pay62 lane304) lane8 k0_pay63 k0_pay64 (state1 X0 X1 X2 X3 X4 300).ss 300 X
/-- The labels it leaves. -/
def Out7 (X : S304x8.Idx → BitVec 32) : Prop :=
  Rows7 (k0_pay62 lane304) lane8 k0_pay63 k0_pay64 (state1 X0 X1 X2 X3 X4 300).ss 300 X

end Values

section Body

variable (c : Dev nD)
  (arg0 : Memref sig .tc .vmem S40x5120 .f32) (harg0 : arg0.IsWhole)
  (arg1 : Memref sig .tc .vmem S40x5120 .f32) (harg1 : arg1.IsWhole)
  (arg2 : Memref sig .tc .vmem S40x5120 .f32) (harg2 : arg2.IsWhole)
  (arg3 : Memref sig .tc .vmem S40x5120 .f32) (harg3 : arg3.IsWhole)
  (arg4 : Memref sig .tc .vmem S40x5120 .f32) (harg4 : arg4.IsWhole)
  (arg5 : Memref sig .tc .vmem S2x304x4 .f32) (harg5 : arg5.IsWhole)
  (arg6 : Memref sig .tc .vmem S304x8 .f32) (harg6 : arg6.IsWhole)
  (arg7 : Memref sig .tc .vmem S304x8 .i32) (harg7 : arg7.IsWhole)
  (arg8 : Memref sig .tc .vmem S40x5120 .f32) (harg8 : arg8.IsWhole)
  (arg9 : Memref sig .tc .vmem S40x5120 .f32) (harg9 : arg9.IsWhole)
  (arg10 : Memref sig .tc .vmem S40x304 .f32) (harg10 : arg10.IsWhole)
  (arg11 : Memref sig .tc .vmem S40x304 .f32) (harg11 : arg11.IsWhole)
  (arg12 : Memref sig .tc .vmem S40x304 .f32) (harg12 : arg12.IsWhole)
  (arg13 : Memref sig .tc .vmem S40x304 .f32) (harg13 : arg13.IsWhole)
  (arg14 : Memref sig .tc .vmem S40x304 .f32) (harg14 : arg14.IsWhole)
  (X0 X1 X2 X3 X4 : FVec F S40x5120 .f32)

/-- The scratch buffers, whatever they hold. -/
def scratchAny : sProp 𝕄 :=
  iprop((∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X))

/-- The inputs. -/
def inputs : sProp 𝕄 :=
  iprop(owns (c : Thread nD τ) arg0 fullShare X0 ∗ owns (c : Thread nD τ) arg1 fullShare X1 ∗ owns (c : Thread nD τ) arg2 fullShare X2 ∗ owns (c : Thread nD τ) arg3 fullShare X3 ∗ owns (c : Thread nD τ) arg4 fullShare X4)

theorem body_run :
    iprop(inputs c arg0 arg1 arg2 arg3 arg4 X0 X1 X2 X3 X4 ∗ ((∃ X, owns (c : Thread nD τ) arg5 fullShare X) ∗ (∃ X, owns (c : Thread nD τ) arg6 fullShare X) ∗ (∃ X, owns (c : Thread nD τ) arg7 fullShare X))
        ∗ scratchAny c arg8 arg9 arg10 arg11 arg12 arg13 arg14)
      ⊢ wp frame (wpE (defs₀ (F := F)) 𝒱₀ (c : Thread nD τ) none) Set.univ (cc0__fd_kernel (F := F) arg0 harg0 arg1 harg1 arg2 harg2 arg3 harg3 arg4 harg4 arg5 harg5 arg6 harg6 arg7 harg7 arg8 harg8 arg9 harg9 arg10 harg10 arg11 harg11 arg12 harg12 arg13 harg13 arg14 harg14)
        (fun _ => iprop(inputs c arg0 arg1 arg2 arg3 arg4 X0 X1 X2 X3 X4
          ∗ ((∃ X, ⌜Out5 X0 X1 X2 X3 X4 X⌝ ∗ owns (c : Thread nD τ) arg5 fullShare X) ∗ (∃ X, ⌜Out6 X0 X1 X2 X3 X4 X⌝ ∗ owns (c : Thread nD τ) arg6 fullShare X) ∗ (∃ X, ⌜Out7 X0 X1 X2 X3 X4 X⌝ ∗ owns (c : Thread nD τ) arg7 fullShare X))
          ∗ scratchAny c arg8 arg9 arg10 arg11 arg12 arg13 arg14)) := by
  unfold inputs scratchAny owns
  iintro ⟨⟨⟨%f0, %h0, H0⟩, ⟨%f1, %h1, H1⟩, ⟨%f2, %h2, H2⟩, ⟨%f3, %h3, H3⟩, ⟨%f4, %h4, H4⟩⟩, ⟨⟨%X5, %f5, %h5, H5⟩, ⟨%X6, %f6, %h6, H6⟩, ⟨%X7, %f7, %h7, H7⟩⟩, ⟨%X8, %f8, %h8, H8⟩, ⟨%X9, %f9, %h9, H9⟩, ⟨%X10, %f10, %h10, H10⟩, ⟨%X11, %f11, %h11, H11⟩, ⟨%X12, %f12, %h12, H12⟩, ⟨%X13, %f13, %h13, H13⟩, ⟨%X14, %f14, %h14, H14⟩⟩
  rw [cc0__fd_kernel_eq_skeleton]
  unfold cc0__fd_kernel_skel
  sl_exec
  have r0 := (readAt_whole (F := F) arg0.view f0 hz2 inb_S40x5120_S40x5120_0_0).trans h0
  have r1 := (readAt_whole (F := F) arg1.view f1 hz2 inb_S40x5120_S40x5120_0_0).trans h1
  have r2 := (readAt_whole (F := F) arg2.view f2 hz2 inb_S40x5120_S40x5120_0_0).trans h2
  have r3 := (readAt_whole (F := F) arg3.view f3 hz2 inb_S40x5120_S40x5120_0_0).trans h3
  have r4 := (readAt_whole (F := F) arg4.view f4 hz2 inb_S40x5120_S40x5120_0_0).trans h4
  rw [← r0, ← r1, ← r2, ← r3, ← r4]
  have e45 : body_run.sl.v45 (F := F) c arg1 arg2 arg3 arg4 arg9 f1 f2 f3 f4 = k0_pay54 (arg1.view.readAt (Elt F) (Rect.unit ![0, 0] S40x5120.size inb_S40x5120_S40x5120_0_0).toLoadRect f1) (arg2.view.readAt (Elt F) (Rect.unit ![0, 0] S40x5120.size inb_S40x5120_S40x5120_0_0).toLoadRect f2) (arg3.view.readAt (Elt F) (Rect.unit ![0, 0] S40x5120.size inb_S40x5120_S40x5120_0_0).toLoadRect f3) (arg4.view.readAt (Elt F) (Rect.unit ![0, 0] S40x5120.size inb_S40x5120_S40x5120_0_0).toLoadRect f4) :=
    View.readCov_unit_zero arg9.view hz2 _ _
  rw [e45]
  iapply (loop1 c arg0 harg0 arg1 harg1 arg2 harg2 arg3 harg3 arg4 harg4 arg5 harg5 arg6 harg6 arg7 harg7 arg8 harg8 arg9 harg9 arg10 harg10 arg11 harg11 arg12 harg12 arg13 harg13 arg14 harg14 _ _ _ _ _ _ _ _ (start1 (arg0.view.readAt (Elt F) (Rect.unit ![0, 0] S40x5120.size inb_S40x5120_S40x5120_0_0).toLoadRect f0))) $$ [H8 H10 H11 H12 H13 H14]
  · unfold own1 owns
    isplitl [H8]
    · iexists _; isplitr
      swap; · iexact H8
      ipureintro; exact read_writes_whole arg8.view _ hz2 _ _ _
    isplitl [H10]
    · iexists _; isplitr
      swap; · iexact H10
      ipureintro; exact read_writes_whole arg10.view _ hz2 _ _ _
    isplitl [H11]
    · iexists _; isplitr
      swap; · iexact H11
      ipureintro; exact read_writes_whole arg11.view _ hz2 _ _ _
    isplitl [H12]
    · iexists _; isplitr
      swap; · iexact H12
      ipureintro; exact read_writes_whole arg12.view _ hz2 _ _ _
    isplitl [H13]
    · iexists _; isplitr
      swap; · iexact H13
      ipureintro; exact read_writes_whole arg13.view _ hz2 _ _ _
    iexists _; isplitr
    swap; · iexact H14
    ipureintro; exact read_writes_whole arg14.view _ hz2 _ _ _
  have e1 : ∀ n, it1 body_run.sl.v0 body_run.sl.v1 (body_run.sl.r (F := F) c arg1 f1) (body_run.sl.r_1 c arg2 f2) (body_run.sl.r_2 c arg3 f3)
      (body_run.sl.r_3 c arg4 f4) (k0_pay54 (arg1.view.readAt (Elt F) (Rect.unit ![0, 0] S40x5120.size inb_S40x5120_S40x5120_0_0).toLoadRect f1) (arg2.view.readAt (Elt F) (Rect.unit ![0, 0] S40x5120.size inb_S40x5120_S40x5120_0_0).toLoadRect f2) (arg3.view.readAt (Elt F) (Rect.unit ![0, 0] S40x5120.size inb_S40x5120_S40x5120_0_0).toLoadRect f3) (arg4.view.readAt (Elt F) (Rect.unit ![0, 0] S40x5120.size inb_S40x5120_S40x5120_0_0).toLoadRect f4)) (start1 (arg0.view.readAt (Elt F) (Rect.unit ![0, 0] S40x5120.size inb_S40x5120_S40x5120_0_0).toLoadRect f0)) n = state1 (arg0.view.readAt (Elt F) (Rect.unit ![0, 0] S40x5120.size inb_S40x5120_S40x5120_0_0).toLoadRect f0) (arg1.view.readAt (Elt F) (Rect.unit ![0, 0] S40x5120.size inb_S40x5120_S40x5120_0_0).toLoadRect f1) (arg2.view.readAt (Elt F) (Rect.unit ![0, 0] S40x5120.size inb_S40x5120_S40x5120_0_0).toLoadRect f2) (arg3.view.readAt (Elt F) (Rect.unit ![0, 0] S40x5120.size inb_S40x5120_S40x5120_0_0).toLoadRect f3) (arg4.view.readAt (Elt F) (Rect.unit ![0, 0] S40x5120.size inb_S40x5120_S40x5120_0_0).toLoadRect f4) n := fun n => rfl
  rw [e1]
  generalize hst : state1 (arg0.view.readAt (Elt F) (Rect.unit ![0, 0] S40x5120.size inb_S40x5120_S40x5120_0_0).toLoadRect f0) (arg1.view.readAt (Elt F) (Rect.unit ![0, 0] S40x5120.size inb_S40x5120_S40x5120_0_0).toLoadRect f1) (arg2.view.readAt (Elt F) (Rect.unit ![0, 0] S40x5120.size inb_S40x5120_S40x5120_0_0).toLoadRect f2) (arg3.view.readAt (Elt F) (Rect.unit ![0, 0] S40x5120.size inb_S40x5120_S40x5120_0_0).toLoadRect f3) (arg4.view.readAt (Elt F) (Rect.unit ![0, 0] S40x5120.size inb_S40x5120_S40x5120_0_0).toLoadRect f4) 300 = st
  unfold own1 owns
  iintro ⟨⟨%g8, %k8, H8⟩, ⟨%g10, %k10, H10⟩, ⟨%g11, %k11, H11⟩, ⟨%g12, %k12, H12⟩, ⟨%g13, %k13, H13⟩, ⟨%g14, %k14, H14⟩⟩
  have q11 := (readAt_whole (F := F) arg11.view g11 hz2 inb_S40x304_S40x304_0_0).trans k11
  have q12 := (readAt_whole (F := F) arg12.view g12 hz2 inb_S40x304_S40x304_0_0).trans k12
  have q13 := (readAt_whole (F := F) arg13.view g13 hz2 inb_S40x304_S40x304_0_0).trans k13
  have q14 := (readAt_whole (F := F) arg14.view g14 hz2 inb_S40x304_S40x304_0_0).trans k14
  iapply (wp_wand_r Idealize.ShloMosaic.frame (wpE (defs₀ (F := F)) 𝒱₀ (c : Thread nD τ) none) Set.univ
    (Q := fun b => iprop(⌜b = ⟨k0_pay62 lane304, lane8, lane4, k0_pay63, k0_pay64, st.x1, st.y1, st.x2, st.y2, 0#32⟩⌝
      ∗ (arg11.view.loc (c : Thread nD τ) ↦[arg11.view.set]{fullShare} g11) ∗ (arg12.view.loc (c : Thread nD τ) ↦[arg12.view.set]{fullShare} g12) ∗ (arg13.view.loc (c : Thread nD τ) ↦[arg13.view.set]{fullShare} g13) ∗ (arg14.view.loc (c : Thread nD τ) ↦[arg14.view.set]{fullShare} g14))))
  isplitl [H11 H12 H13 H14]
  · sl_exec
    sl_step
    isplitr
    · ipureintro; rw [← q11, ← q12, ← q13, ← q14]; rfl
    · isplitl [H11]; · iexact H11
      isplitl [H12]; · iexact H12
      isplitl [H13]; · iexact H13
      iexact H14
  iintro %b ⟨%hb, H11, H12, H13, H14⟩
  subst hb
  iapply (loop2 c arg0 harg0 arg1 harg1 arg2 harg2 arg3 harg3 arg4 harg4 arg5 harg5 arg6 harg6 arg7 harg7 arg8 harg8 arg9 harg9 arg10 harg10 arg11 harg11 arg12 harg12 arg13 harg13 arg14 harg14 (k0_pay62 lane304) lane8 lane4 k0_pay63 k0_pay64 st.x1 st.y1 st.x2 st.y2 0#32 st.ss) $$ [H5 H6 H7 H10]
  · unfold own2 owns
    isplitl [H5]
    · iexists (arg5.view.read (Elt F) f5); isplitr
      · ipureintro; intro y x hy; exact absurd hy (Nat.not_lt_zero _)
      · iexists f5; isplitr
        swap; · iexact H5
        ipureintro; rfl
    isplitl [H6]
    · iexists (arg6.view.read (Elt F) f6); isplitr
      · ipureintro; intro y x hy; exact absurd hy (Nat.not_lt_zero _)
      · iexists f6; isplitr
        swap; · iexact H6
        ipureintro; rfl
    isplitl [H7]
    · iexists (arg7.view.read (Elt F) f7); isplitr
      · ipureintro; intro y x hy; exact absurd hy (Nat.not_lt_zero _)
      · iexists f7; isplitr
        swap; · iexact H7
        ipureintro; rfl
    iexists g10; isplitr
    swap; · iexact H10
    ipureintro; exact k10
  unfold own2 owns
  iintro ⟨⟨%Y5, %R5, %j5, %i5, H5⟩, ⟨%Y6, %R6, %j6, %i6, H6⟩, ⟨%Y7, %R7, %j7, %i7, H7⟩, ⟨%j10, %i10, H10⟩⟩
  sl_step
  subst hst
  isplitl [H0 H1 H2 H3 H4]
  · isplitl [H0]
    · iexists _; isplitr
      swap; · iexact H0
      ipureintro; exact (readAt_whole (F := F) arg0.view f0 hz2 _).symm
    isplitl [H1]
    · iexists _; isplitr
      swap; · iexact H1
      ipureintro; exact (readAt_whole (F := F) arg1.view f1 hz2 _).symm
    isplitl [H2]
    · iexists _; isplitr
      swap; · iexact H2
      ipureintro; exact (readAt_whole (F := F) arg2.view f2 hz2 _).symm
    isplitl [H3]
    · iexists _; isplitr
      swap; · iexact H3
      ipureintro; exact (readAt_whole (F := F) arg3.view f3 hz2 _).symm
    iexists _; isplitr
    swap; · iexact H4
    ipureintro; exact (readAt_whole (F := F) arg4.view f4 hz2 _).symm
  isplitl [H5 H6 H7]
  · isplitl [H5]
    · iexists Y5; isplitr
      · ipureintro; exact R5
      · iexists _; isplitr
        swap; · iexact H5
        ipureintro; exact i5
    isplitl [H6]
    · iexists Y6; isplitr
      · ipureintro; exact R6
      · iexists _; isplitr
        swap; · iexact H6
        ipureintro; exact i6
    iexists Y7; isplitr
    · ipureintro; exact R7
    · iexists _; isplitr
      swap; · iexact H7
      ipureintro; exact i7
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  isplitl [H12]
  · iexists _; iexists _; isplitr
    swap; · iexact H12
    ipureintro; rfl
  isplitl [H13]
  · iexists _; iexists _; isplitr
    swap; · iexact H13
    ipureintro; rfl
  iexists _; iexists _; isplitr
  swap; · iexact H14
  ipureintro; rfl

end Body

end Cert.Proof.KernelIdeal

end
-- ==== Proof.KI.Run.lean ====
/-
  The run of the kernel: the pipeline's data, the body's obligation from `body_run`, and the launch. Every execution
  ends with the arguments unchanged, every counter at zero, and the three results read off blocks whose rows below 300
  are those of `Body.lean`.
-/
module

public import proofs.«01_k».proof.Proof.KI.Body
public import proofs.«01_k».proof.Proof.Launch
public import proofs.«01_k».proof.Proof.Gen.KernelIdeal.Frame
public import Idealize.ShloMosaic.Lib.Pipeline.ValueKit.Geometry

@[expose] public section

set_option maxRecDepth 16384
set_option maxHeartbeats 400000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's data -/

/-- The arrays as the region finds them; the inputs' blocks are left in place; what the outputs' buffers hold is said by
    the relation `Rl` below, not here. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The output windows. -/
def marked : Fin cfg0.W → Bool
  | ⟨5, _⟩ => true
  | ⟨6, _⟩ => true
  | ⟨7, _⟩ => true
  | _ => false

/-- What the body leaves in the outputs' buffers at point `t`. -/
def Rl (c : Dev nD) (w : Fin cfg0.W) (t : Fin cfg0.N) : ((cfg0.win w).block.Idx → Elt F (cfg0.win w).elt) → Prop :=
  match w with
  | ⟨5, _⟩ => Out5 (iblk m c 0 t) (iblk m c 1 t) (iblk m c 2 t) (iblk m c 3 t) (iblk m c 4 t)
  | ⟨6, _⟩ => Out6 (iblk m c 0 t) (iblk m c 1 t) (iblk m c 2 t) (iblk m c 3 t) (iblk m c 4 t)
  | ⟨7, _⟩ => Out7 (iblk m c 0 t) (iblk m c 1 t) (iblk m c 2 t) (iblk m c 3 t) (iblk m c 4 t)
  | _ => fun _ => True

/-! ## The body's obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel marked (Rl m c)).Finds 5 t Y⌝ ∗ owns (c : Thread nD τ) (st0_5 t) fullShare Y)
    ∗ (∃ Y, ⌜((dats m 0 c).toRRel marked (Rl m c)).Finds 6 t Y⌝ ∗ owns (c : Thread nD τ) (st0_6 t) fullShare Y)
    ∗ (∃ Y, ⌜((dats m 0 c).toRRel marked (Rl m c)).Finds 7 t Y⌝ ∗ owns (c : Thread nD τ) (st0_7 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Rl m c 5 t X⌝ ∗ owns (c : Thread nD τ) (st0_5 t) fullShare X)
    ∗ (∃ X, ⌜Rl m c 6 t X⌝ ∗ owns (c : Thread nD τ) (st0_6 t) fullShare X)
    ∗ (∃ X, ⌜Rl m c 7 t X⌝ ∗ owns (c : Thread nD τ) (st0_7 t) fullShare X))

/-- A whole scratch buffer at some contents, as the kernel's body names it, -/
theorem scratch_in (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  unfold owns; simp only [Memref.view_whole, View.read_whole, View.set_whole]
  iintro ⟨%f, H⟩; iexists f; iexists f
  isplitr
  · ipureintro; rfl
  · iexact H

/-- and back. -/
theorem scratch_out (c : Dev nD) (b : Ref sig .tc) :
    (iprop(∃ X, owns (c : Thread nD τ) (Memref.whole b) fullShare X) : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%X, %f, %h, H⟩; iexists f; iexact H

theorem body_sound (c : Dev nD) (t : Fin cfg0.N) :
    bodyPre m c t ⊢ wp frame (wpE (defs₀ (F := F)) 𝒱₀ c none) Set.univ (bodyAt0 t) (fun _ => bodyPost m c t) := by
  unfold bodyPre bodyPost bodyAt0
  simp only [before_0, before_1, before_2, before_3, before_4]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl,
    after_0, after_1, after_2, after_3, after_4]
  unfold Pipeline.ΦA
  rw [scopedRest0_eq]
  iintro ⟨⟨⟨S0, S1, S2, S3, S4, S5, S6⟩, Hp⟩, Ho, ⟨%d0, H0⟩, ⟨%d1, H1⟩, ⟨%d2, H2⟩, ⟨%d3, H3⟩, ⟨%d4, H4⟩, ⟨%Y5, %h5, H5⟩, ⟨%Y6, %h6, H6⟩, ⟨%Y7, %h7, H7⟩⟩
  iapply (wp_wand_r frame (wpE (defs₀ (F := F)) 𝒱₀ (c : Thread nD τ) none) Set.univ)
  isplitl [H0 H1 H2 H3 H4 H5 H6 H7 S0 S1 S2 S3 S4 S5 S6]
  · iapply (body_run c _ _ _ _ _ _ _ _ _ _ _ _ _ _ _ _ _ _ _ _ _ _ _ _ _ _ _ _ _ _ (iblk m c 0 t) (iblk m c 1 t) (iblk m c 2 t) (iblk m c 3 t) (iblk m c 4 t))
    unfold inputs scratchAny
    isplitl [H0 H1 H2 H3 H4]
    · isplitl [H0]; · iexact H0
      isplitl [H1]; · iexact H1
      isplitl [H2]; · iexact H2
      isplitl [H3]; · iexact H3
      iexact H4
    isplitl [H5 H6 H7]
    · isplitl [H5]; · iexists Y5; iexact H5
      isplitl [H6]; · iexists Y6; iexact H6
      iexists Y7; iexact H7
    isplitl [S0]; · iapply (scratch_in c cc0_scratch0); iexact S0
    isplitl [S1]; · iapply (scratch_in c cc0_scratch1); iexact S1
    isplitl [S2]; · iapply (scratch_in c cc0_scratch2); iexact S2
    isplitl [S3]; · iapply (scratch_in c cc0_scratch3); iexact S3
    isplitl [S4]; · iapply (scratch_in c cc0_scratch4); iexact S4
    isplitl [S5]; · iapply (scratch_in c cc0_scratch5); iexact S5
    iapply (scratch_in c cc0_scratch6); iexact S6
  unfold inputs scratchAny
  iintro %_ ⟨⟨H0, H1, H2, H3, H4⟩, ⟨⟨%X5, %g5, H5⟩, ⟨%X6, %g6, H6⟩, ⟨%X7, %g7, H7⟩⟩, S0, S1, S2, S3, S4, S5, S6⟩
  isplitl [Hp S0 S1 S2 S3 S4 S5 S6]
  · isplitr [Hp]
    · isplitl [S0]; · iapply (scratch_out c cc0_scratch0); iexact S0
      isplitl [S1]; · iapply (scratch_out c cc0_scratch1); iexact S1
      isplitl [S2]; · iapply (scratch_out c cc0_scratch2); iexact S2
      isplitl [S3]; · iapply (scratch_out c cc0_scratch3); iexact S3
      isplitl [S4]; · iapply (scratch_out c cc0_scratch4); iexact S4
      isplitl [S5]; · iapply (scratch_out c cc0_scratch5); iexact S5
      iapply (scratch_out c cc0_scratch6); iexact S6
    · iexact Hp
  isplitl [Ho]; · iexact Ho
  isplitl [H0]; · iexact H0
  isplitl [H1]; · iexact H1
  isplitl [H2]; · iexact H2
  isplitl [H3]; · iexact H3
  isplitl [H4]; · iexact H4
  isplitl [H5]
  · iexists X5; isplitr
    · ipureintro; exact g5
    · iexact H5
  isplitl [H6]
  · iexists X6; isplitr
    · ipureintro; exact g6
    · iexact H6
  iexists X7; isplitr
  · ipureintro; exact g7
  · iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) :
    BodyObligationRel (dats (F := F) m 0 c) (defs₀ (F := F)) 𝒱₀ () Set.univ marked (Rl m c) := fun t => by
  rw [bigSep_W0, bigSep_W0, defs₀_row]
  exact body_sound m c t

/-! ## The run -/

/-- The relational data of the run. -/
abbrev rdat (c : Dev nD) : RDat τ (Elt F) Unit ℕ (UR sig nD τ) ℕ cfg0 c := (dats m 0 c).toRRel marked (Rl m c)

set_option backward.isDefEq.respectTransparency.types false in
theorem run_tail : θ_run defs (onTc (τ := τ) (main (F := F))) ⟨m, fun _ => 0, ρ⟩
    (fun r => (∀ c, Launch.TailPost cfgs 0 (rdat m) (V0 m) [hostOps1] r.2 c) ∧ r.2.sem = fun _ => 0) :=
  Launch.run_tail cfgs (0 : Fin 1) launch0 defs₀ 𝒱₀ (rdat m) m ρ main
    (hbody := fun c => (body_obligation m c).toRRel)
    (hshare := fun c => (dats m 0 c).share_full fun _ => rfl)
    (howed := fun _ _ => rfl) (V₀ := V0 m) (opss := [hostOps1]) (hsub := sfx_sub) (hfresh := sfx_fresh) (hkeep := sfx_keeps)
    (hmain := hmain m 𝒱₀) (hA := A_eq m) (hΦ := fun _ _ => rfl)

/-- What the run leaves on core `c`: the arguments as launched, and the three results read off blocks `B`, `S`, `L`
    whose rows below 300 the body's values give. -/
def RunPost (s : MemSt nD τ sig (Elt F)) (c : Dev nD) : Prop :=
  (∃ (B : S2x304x4.Idx → F .f32) (S : S304x8.Idx → F .f32) (L : S304x8.Idx → BitVec 32),
    Out5 (iblk m c 0 t0_0) (iblk m c 1 t0_0) (iblk m c 2 t0_0) (iblk m c 3 t0_0) (iblk m c 4 t0_0) B ∧ Out6 (iblk m c 0 t0_0) (iblk m c 1 t0_0) (iblk m c 2 t0_0) (iblk m c 3 t0_0) (iblk m c 4 t0_0) S ∧ Out7 (iblk m c 0 t0_0) (iblk m c 1 t0_0) (iblk m c 2 t0_0) (iblk m c 3 t0_0) (iblk m c 4 t0_0) L
    ∧ s.mem ((c.tc : Thread nD τ).loc main_v28) = extractStridedSlice S2x300x4 ![0, 0, 0] B slices_S2x304x4_S2x300x4_0_0_0
    ∧ s.mem ((c.tc : Thread nD τ).loc main_v30) = transpose S2x300 [1, 0] (extractStridedSlice S300x2 ![0, 0] S slices_S304x8_S300x2_0_0) transposes_S300x2_S2x300_1_0
    ∧ s.mem ((c.tc : Thread nD τ).loc main_v32) = transpose S2x300 [1, 0] (extractStridedSlice S300x2 ![0, 0] L slices_S304x8_S300x2_0_0) transposes_S300x2_S2x300_1_0)
  ∧ s.mem ((c.tc : Thread nD τ).loc main_arg0) = m ((c.tc : Thread nD τ).loc main_arg0)
  ∧ s.mem ((c.tc : Thread nD τ).loc main_arg1) = m ((c.tc : Thread nD τ).loc main_arg1)

/-- A bypassing buffer, as the run's conclusion lists it. -/
theorem mem_rest (b : Ref sig .tc) (h : b ∈ Pipeline.restRefs sig spec0) : b ∈ Pipeline.restRefsP sig Pipeline.Prefetch.none spec0 := by
  refine Finset.mem_sdiff.mpr ⟨h, ?_⟩
  simp only [Finset.mem_image, not_exists]
  intro k; exact k.elim0

theorem whole_at (w : Fin cfg0.W) (hw : marked w = true) : (cfg0.win w).WholeAt t0_0 := by
  revert w; decide +kernel

/-- The three results of the lines after the region. -/
theorem tail_v28 (W : Valuation τ sig (Elt F)) : StableHlo.after [hostOps1].flatten W (Proc.devRef .tc main_v28)
    = extractStridedSlice S2x300x4 ![0, 0, 0] (W (Proc.devRef .tc main_v27_0)) slices_S2x304x4_S2x300x4_0_0_0 := by
  simp only [List.flatten_cons, List.flatten_nil, List.append_nil]; after_results
theorem tail_v30 (W : Valuation τ sig (Elt F)) : StableHlo.after [hostOps1].flatten W (Proc.devRef .tc main_v30)
    = transpose S2x300 [1, 0] (extractStridedSlice S300x2 ![0, 0] (W (Proc.devRef .tc main_v27_1)) slices_S304x8_S300x2_0_0) transposes_S300x2_S2x300_1_0 := by
  simp only [List.flatten_cons, List.flatten_nil, List.append_nil]; after_results
theorem tail_v32 (W : Valuation τ sig (Elt F)) : StableHlo.after [hostOps1].flatten W (Proc.devRef .tc main_v32)
    = transpose S2x300 [1, 0] (extractStridedSlice S300x2 ![0, 0] (W (Proc.devRef .tc main_v27_2)) slices_S304x8_S300x2_0_0) transposes_S300x2_S2x300_1_0 := by
  simp only [List.flatten_cons, List.flatten_nil, List.append_nil]; after_results

theorem tail_post (s : MemSt nD τ sig (Elt F)) (c : Dev nD) (h : Launch.TailPost cfgs 0 (rdat m) (V0 m) [hostOps1] s c) : RunPost m s c := by
  obtain ⟨A, hA, hs⟩ := h
  have arr : ∀ (w : Fin cfg0.W) (hw : marked w = true), ∃ X, Rl m c w t0_0 X ∧ ∀ j : (cfg0.win w).shape.Idx,
      A w ((cfg0.win w).arr.view.emb j) = _root_.cast (congrArg (Elt F) (cfg0.win w).arr.view.elt_eq.symm)
        (X fun a => ⟨j a, (whole_at w hw).lt_size j a⟩) := fun w hw => by
    obtain ⟨X, hX, hj⟩ := RDat.ArrAt.emb_eq_of_wholeAt (hA w) (whole_at w hw)
    exact ⟨X, Dat.toRRel_leaves _ hw hX, hj⟩
  obtain ⟨X5, o5, e5⟩ := arr 5 rfl
  obtain ⟨X6, o6, e6⟩ := arr 6 rfl
  obtain ⟨X7, o7, e7⟩ := arr 7 rfl
  have E5 : A 5 = X5 := funext fun j => e5 j
  have E6 : A 6 = X6 := funext fun j => e6 j
  have E7 : A 7 = X7 := funext fun j => e7 j
  have W := fun w => Pipeline.withArrays_arr spec0 launch0.win.arr_inj c (V0 m c) A w
  have keep : ∀ b : Ref sig .tc, (∀ op ∈ (hostOps1 : List (HloOp τ sig (Elt F))), Proc.devRef .tc b ∉ op.writes) → (∀ w, Pipeline.arrRef spec0 w ≠ b) →
      StableHlo.after [hostOps1].flatten (Pipeline.withArrays spec0 c (V0 m c) A) (Proc.devRef .tc b) = V m c b := fun b h1 h2 => by
    rw [StableHlo.after_of_forall_not_mem _ _ (by simpa using h1), Pipeline.withArrays_of_ne _ c (V0 m c) _ b h2]
  refine ⟨⟨X5, X6, X7, o5, o6, o7, ?_, ?_, ?_⟩, ?_, ?_⟩
  · rw [hs main_v28 (mem_rest _ (Pipeline.mem_restRefs_of main_v28 (by decide) (by decide))), ← E5, ← W 5]
    exact tail_v28 _
  · rw [hs main_v30 (mem_rest _ (Pipeline.mem_restRefs_of main_v30 (by decide) (by decide))), ← E6, ← W 6]
    exact tail_v30 _
  · rw [hs main_v32 (mem_rest _ (Pipeline.mem_restRefs_of main_v32 (by decide) (by decide))), ← E7, ← W 7]
    exact tail_v32 _
  · rw [hs main_arg0 (mem_rest _ (Pipeline.mem_restRefs_of main_arg0 (by decide) (by decide)))]
    exact (keep main_arg0 (by simp only [hostOps1, List.mem_cons, List.mem_nil_iff, _root_.or_false]; rintro op (rfl | rfl | rfl | rfl | rfl) <;> simp only [StableHlo.unary_writes, Finset.mem_singleton] <;> exact StableHlo.devRef_ne_of_ne (by decide)) (by exact (by decide : ∀ w, Pipeline.arrRef spec0 w ≠ main_arg0))).trans (V_main_arg0 m c)
  · rw [hs main_arg1 (mem_rest _ (Pipeline.mem_restRefs_of main_arg1 (by decide) (by decide)))]
    exact (keep main_arg1 (by simp only [hostOps1, List.mem_cons, List.mem_nil_iff, _root_.or_false]; rintro op (rfl | rfl | rfl | rfl | rfl) <;> simp only [StableHlo.unary_writes, Finset.mem_singleton] <;> exact StableHlo.devRef_ne_of_ne (by decide)) (by exact (by decide : ∀ w, Pipeline.arrRef spec0 w ≠ main_arg1))).trans (V_main_arg1 m c)

/-- The run of the kernel. -/
theorem run : θ_run defs (onTc (τ := τ) (main (F := F))) ⟨m, fun _ => 0, ρ⟩
    (fun r => (∀ c, RunPost m r.2 c) ∧ r.2.sem = fun _ => 0) :=
  (θ_run defs _ _).mono (fun r h => ⟨fun c => tail_post m r.2 c (h.1 c), h.2⟩) (run_tail m ρ)

end Cert.Proof.KernelIdeal

end
-- ==== Proof.RefStepRun.lean ====
/- The reference's run over the step of Gen/ReferenceIdeal/Step.lean: while a valuation holds a state, each value of one trip is the
   step's, so the results are fields of the step iterated from the initial state. The text follows the generated module
   Gen/ReferenceIdeal/StepRun.lean; the two lemmas on the rows a trip writes, `step_8` and `step_9`, are closed differently. -/
module

public import proofs.«01_k».proof.Proof.Gen.ReferenceIdeal.Run
public import proofs.«01_k».proof.Proof.Gen.ReferenceIdeal.Step

@[expose] public section

noncomputable section

namespace Cert.Proof.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_7 : V0 (Proc.devRef .tc main_v21_7) = s.main_v21_7
  f_8 : V0 (Proc.devRef .tc main_v21_8) = s.main_v21_8
  f_9 : V0 (Proc.devRef .tc main_v21_9) = s.main_v21_9
  f_0 : V0 (Proc.devRef .tc main_v21_0) = s.main_v21_0
  f_1 : V0 (Proc.devRef .tc main_v21_1) = s.main_v21_1
  f_2 : V0 (Proc.devRef .tc main_v21_2) = s.main_v21_2
  f_3 : V0 (Proc.devRef .tc main_v21_3) = s.main_v21_3
  f_4 : V0 (Proc.devRef .tc main_v21_4) = s.main_v21_4
  f_5 : V0 (Proc.devRef .tc main_v21_5) = s.main_v21_5
  n_6 : V0 (Proc.devRef .tc main_v21_6) = constantI S_ 32 (BitVec.ofNat 32 j)

variable {V0 s j}

set_option maxRecDepth 8192 in
theorem al_0 (h : Holds V0 s j) : ((Host.topK S2x20x1 2 (FloatOps.cmpfTotal .gt) (V0 (Proc.devRef .tc main_v21_7)) sliceFits_S2x20x5000_S2x20x1).1 : (Proc.devRef .tc main_while0b_values_16 : DevRef τ sig).ty.Contents (Elt F)) = Cert.ReferenceIdeal.Step.b0 j s := by
  unfold Cert.ReferenceIdeal.Step.b0
  rw [h.f_7]
  try rfl
set_option maxRecDepth 8192 in
theorem al_1 (h : Holds V0 s j) : ((Host.topK S2x20x1 2 (FloatOps.cmpfTotal .gt) (V0 (Proc.devRef .tc main_v21_7)) sliceFits_S2x20x5000_S2x20x1).2 : (Proc.devRef .tc main_while0b_indices_17 : DevRef τ sig).ty.Contents (Elt F)) = Cert.ReferenceIdeal.Step.b1 j s := by
  unfold Cert.ReferenceIdeal.Step.b1
  rw [h.f_7]
  try rfl
set_option maxRecDepth 8192 in
theorem al_2 (h : Holds V0 s j) : (res_main_while0b_v45 V0 : (Proc.devRef .tc main_while0b_v45 : DevRef τ sig).ty.Contents (Elt F)) = Cert.ReferenceIdeal.Step.b2 j s := by
  unfold res_main_while0b_v45 Cert.ReferenceIdeal.Step.b2
  rw [← al_0 h]
  try rfl
set_option maxRecDepth 8192 in
theorem al_3 (h : Holds V0 s j) : (res_main_while0b_v46 V0 : (Proc.devRef .tc main_while0b_v46 : DevRef τ sig).ty.Contents (Elt F)) = Cert.ReferenceIdeal.Step.b3 j s := by
  unfold res_main_while0b_v46 Cert.ReferenceIdeal.Step.b3
  rw [← al_1 h]
  try rfl
set_option maxRecDepth 8192 in
theorem al_4 (h : Holds V0 s j) : (constant S_ .f32 0xCDEE6B28#32 : (Proc.devRef .tc main_while0b_cst_18 : DevRef τ sig).ty.Contents (Elt F)) = Cert.ReferenceIdeal.Step.b4 j s := by
  unfold Cert.ReferenceIdeal.Step.b4
  rfl
set_option maxRecDepth 8192 in
theorem al_5 (h : Holds V0 s j) : (broadcastInDim S2x20 ![] bcast_S_S2x20 (constant S_ .f32 0xCDEE6B28#32) : (Proc.devRef .tc main_while0b_v47 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (res_main_while0b_v48 V0 : (Proc.devRef .tc main_while0b_v48 : DevRef τ sig).ty.Contents (Elt F)) = Cert.ReferenceIdeal.Step.b6 j s := by
  unfold res_main_while0b_v48 Cert.ReferenceIdeal.Step.b6
  rw [← al_2 h, ← al_5 h]
  try rfl
set_option maxRecDepth 8192 in
theorem al_7 (h : Holds V0 s j) : (iotaInDim S2 32 0 : (Proc.devRef .tc main_while0b_v49 : DevRef τ sig).ty.Contents (Elt F)) = Cert.ReferenceIdeal.Step.b7 j s := by
  unfold Cert.ReferenceIdeal.Step.b7
  rfl
set_option maxRecDepth 8192 in
theorem al_8 (h : Holds V0 s j) : (broadcastInDim S2x1 ![0] bcast_S2_S2x1_0 (iotaInDim S2 32 0) : (Proc.devRef .tc main_while0b_v50 : DevRef τ sig).ty.Contents (Elt F)) = Cert.ReferenceIdeal.Step.b8 j s := by
  unfold Cert.ReferenceIdeal.Step.b8
  rw [← al_7 h]
  try rfl
set_option maxRecDepth 8192 in
theorem al_9 (h : Holds V0 s j) : (broadcastInDim S2x20 ![0, 1] bcast_S2x1_S2x20_0_1 (broadcastInDim S2x1 ![0] bcast_S2_S2x1_0 (iotaInDim S2 32 0)) : (Proc.devRef .tc main_while0b_v51 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (broadcastInDim S2x20x1 ![0, 1] bcast_S2x20_S2x20x1_0_1 (broadcastInDim S2x20 ![0, 1] bcast_S2x1_S2x20_0_1 (broadcastInDim S2x1 ![0] bcast_S2_S2x1_0 (iotaInDim S2 32 0))) : (Proc.devRef .tc main_while0b_v52 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (broadcastInDim S2x20x1 ![0, 1] bcast_S2x20_S2x20x1_0_1 (res_main_while0b_v46 V0) : (Proc.devRef .tc main_while0b_v53 : DevRef τ sig).ty.Contents (Elt F)) = Cert.ReferenceIdeal.Step.b11 j s := by
  unfold Cert.ReferenceIdeal.Step.b11
  rw [← al_3 h]
  try rfl
set_option maxRecDepth 8192 in
theorem al_12 (h : Holds V0 s j) : (concatenate S2x20x2 2 [⟨S2x20x1, (broadcastInDim S2x20x1 ![0, 1] bcast_S2x20_S2x20x1_0_1 (broadcastInDim S2x20 ![0, 1] bcast_S2x1_S2x20_0_1 (broadcastInDim S2x1 ![0] bcast_S2_S2x1_0 (iotaInDim S2 32 0))))⟩, ⟨S2x20x1, (broadcastInDim S2x20x1 ![0, 1] bcast_S2x20_S2x20x1_0_1 (res_main_while0b_v46 V0))⟩] concatenates_S2x20x1_S2x20x1_S2x20x2_d2 : (Proc.devRef .tc main_while0b_v54 : DevRef τ sig).ty.Contents (Elt F)) = Cert.ReferenceIdeal.Step.b12 j s := by
  unfold Cert.ReferenceIdeal.Step.b12
  rw [← al_10 h, ← al_11 h]
  try rfl
set_option maxRecDepth 8192 in
theorem al_13 (h : Holds V0 s j) : (res_main_while0b_v55 V0 : (Proc.devRef .tc main_while0b_v55 : DevRef τ sig).ty.Contents (Elt F)) = Cert.ReferenceIdeal.Step.b13 j s := by
  unfold res_main_while0b_v55 Cert.ReferenceIdeal.Step.b13
  rw [← al_12 h, h.f_0]
  try rfl
set_option maxRecDepth 8192 in
theorem al_14 (h : Holds V0 s j) : (extractStridedSlice S2x20x1 ![0, 0, 0] (res_main_while0b_v55 V0) slices_S2x20x4_S2x20x1_0_0_0 : (Proc.devRef .tc main_while0b_v56 : DevRef τ sig).ty.Contents (Elt F)) = Cert.ReferenceIdeal.Step.b14 j s := by
  unfold Cert.ReferenceIdeal.Step.b14
  rw [← al_13 h]
  try rfl
set_option maxRecDepth 8192 in
theorem al_15 (h : Holds V0 s j) : (shapeCast S2x20 (extractStridedSlice S2x20x1 ![0, 0, 0] (res_main_while0b_v55 V0) slices_S2x20x4_S2x20x1_0_0_0) shapeCasts_S2x20x1_S2x20 : (Proc.devRef .tc main_while0b_v57 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (res_main_while0b_v58 V0 : (Proc.devRef .tc main_while0b_v58 : DevRef τ sig).ty.Contents (Elt F)) = Cert.ReferenceIdeal.Step.b16 j s := by
  unfold res_main_while0b_v58 Cert.ReferenceIdeal.Step.b16
  rw [← al_15 h]
  try rfl
set_option maxRecDepth 8192 in
theorem al_17 (h : Holds V0 s j) : (extractStridedSlice S2x20x1 ![0, 0, 1] (res_main_while0b_v55 V0) slices_S2x20x4_S2x20x1_0_0_1 : (Proc.devRef .tc main_while0b_v59 : DevRef τ sig).ty.Contents (Elt F)) = Cert.ReferenceIdeal.Step.b17 j s := by
  unfold Cert.ReferenceIdeal.Step.b17
  rw [← al_13 h]
  try rfl
set_option maxRecDepth 8192 in
theorem al_18 (h : Holds V0 s j) : (shapeCast S2x20 (extractStridedSlice S2x20x1 ![0, 0, 1] (res_main_while0b_v55 V0) slices_S2x20x4_S2x20x1_0_0_1) shapeCasts_S2x20x1_S2x20 : (Proc.devRef .tc main_while0b_v60 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (res_main_while0b_v61 V0 : (Proc.devRef .tc main_while0b_v61 : DevRef τ sig).ty.Contents (Elt F)) = Cert.ReferenceIdeal.Step.b19 j s := by
  unfold res_main_while0b_v61 Cert.ReferenceIdeal.Step.b19
  rw [← al_18 h]
  try rfl
set_option maxRecDepth 8192 in
theorem al_20 (h : Holds V0 s j) : (extractStridedSlice S2x20x1 ![0, 0, 2] (res_main_while0b_v55 V0) slices_S2x20x4_S2x20x1_0_0_2 : (Proc.devRef .tc main_while0b_v62 : DevRef τ sig).ty.Contents (Elt F)) = Cert.ReferenceIdeal.Step.b20 j s := by
  unfold Cert.ReferenceIdeal.Step.b20
  rw [← al_13 h]
  try rfl
set_option maxRecDepth 8192 in
theorem al_21 (h : Holds V0 s j) : (shapeCast S2x20 (extractStridedSlice S2x20x1 ![0, 0, 2] (res_main_while0b_v55 V0) slices_S2x20x4_S2x20x1_0_0_2) shapeCasts_S2x20x1_S2x20 : (Proc.devRef .tc main_while0b_v63 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (res_main_while0b_v64 V0 : (Proc.devRef .tc main_while0b_v64 : DevRef τ sig).ty.Contents (Elt F)) = Cert.ReferenceIdeal.Step.b22 j s := by
  unfold res_main_while0b_v64 Cert.ReferenceIdeal.Step.b22
  rw [← al_21 h]
  try rfl
set_option maxRecDepth 8192 in
theorem al_23 (h : Holds V0 s j) : (extractStridedSlice S2x20x1 ![0, 0, 3] (res_main_while0b_v55 V0) slices_S2x20x4_S2x20x1_0_0_3 : (Proc.devRef .tc main_while0b_v65 : DevRef τ sig).ty.Contents (Elt F)) = Cert.ReferenceIdeal.Step.b23 j s := by
  unfold Cert.ReferenceIdeal.Step.b23
  rw [← al_13 h]
  try rfl
set_option maxRecDepth 8192 in
theorem al_24 (h : Holds V0 s j) : (shapeCast S2x20 (extractStridedSlice S2x20x1 ![0, 0, 3] (res_main_while0b_v55 V0) slices_S2x20x4_S2x20x1_0_0_3) shapeCasts_S2x20x1_S2x20 : (Proc.devRef .tc main_while0b_v66 : DevRef τ sig).ty.Contents (Elt F)) = Cert.ReferenceIdeal.Step.b24 j s := by
  unfold Cert.ReferenceIdeal.Step.b24
  rw [← al_23 h]
  try rfl
set_option maxRecDepth 8192 in
theorem al_25 (h : Holds V0 s j) : (res_main_while0b_v67 V0 : (Proc.devRef .tc main_while0b_v67 : DevRef τ sig).ty.Contents (Elt F)) = Cert.ReferenceIdeal.Step.b25 j s := by
  unfold res_main_while0b_v67 Cert.ReferenceIdeal.Step.b25
  rw [← al_24 h]
  try rfl
set_option maxRecDepth 8192 in
theorem al_26 (h : Holds V0 s j) : (broadcastInDim S2x20x5000 ![0, 1, 2] bcast_S2x20x1_S2x20x5000_0_1_2 (res_main_while0b_v58 V0) : (Proc.devRef .tc main_while0b_v68 : DevRef τ sig).ty.Contents (Elt F)) = Cert.ReferenceIdeal.Step.b26 j s := by
  unfold Cert.ReferenceIdeal.Step.b26
  rw [← al_16 h]
  try rfl
set_option maxRecDepth 8192 in
theorem al_27 (h : Holds V0 s j) : (broadcastInDim S2x20x5000 ![0, 1, 2] bcast_S2x1x5000_S2x20x5000_0_1_2 (V0 (Proc.devRef .tc main_v21_1)) : (Proc.devRef .tc main_while0b_v69 : DevRef τ sig).ty.Contents (Elt F)) = Cert.ReferenceIdeal.Step.b27 j s := by
  unfold Cert.ReferenceIdeal.Step.b27
  rw [h.f_1]
  try rfl
set_option maxRecDepth 8192 in
theorem al_28 (h : Holds V0 s j) : (maximumf (broadcastInDim S2x20x5000 ![0, 1, 2] bcast_S2x20x1_S2x20x5000_0_1_2 (res_main_while0b_v58 V0)) (broadcastInDim S2x20x5000 ![0, 1, 2] bcast_S2x1x5000_S2x20x5000_0_1_2 (V0 (Proc.devRef .tc main_v21_1))) : (Proc.devRef .tc main_while0b_v70 : DevRef τ sig).ty.Contents (Elt F)) = Cert.ReferenceIdeal.Step.b28 j s := by
  unfold Cert.ReferenceIdeal.Step.b28
  rw [← al_26 h, ← al_27 h]
  try rfl
set_option maxRecDepth 8192 in
theorem al_29 (h : Holds V0 s j) : (broadcastInDim S2x20x5000 ![0, 1, 2] bcast_S2x20x1_S2x20x5000_0_1_2 (res_main_while0b_v61 V0) : (Proc.devRef .tc main_while0b_v71 : DevRef τ sig).ty.Contents (Elt F)) = Cert.ReferenceIdeal.Step.b29 j s := by
  unfold Cert.ReferenceIdeal.Step.b29
  rw [← al_19 h]
  try rfl
set_option maxRecDepth 8192 in
theorem al_30 (h : Holds V0 s j) : (broadcastInDim S2x20x5000 ![0, 1, 2] bcast_S2x1x5000_S2x20x5000_0_1_2 (V0 (Proc.devRef .tc main_v21_2)) : (Proc.devRef .tc main_while0b_v72 : DevRef τ sig).ty.Contents (Elt F)) = Cert.ReferenceIdeal.Step.b30 j s := by
  unfold Cert.ReferenceIdeal.Step.b30
  rw [h.f_2]
  try rfl
set_option maxRecDepth 8192 in
theorem al_31 (h : Holds V0 s j) : (maximumf (broadcastInDim S2x20x5000 ![0, 1, 2] bcast_S2x20x1_S2x20x5000_0_1_2 (res_main_while0b_v61 V0)) (broadcastInDim S2x20x5000 ![0, 1, 2] bcast_S2x1x5000_S2x20x5000_0_1_2 (V0 (Proc.devRef .tc main_v21_2))) : (Proc.devRef .tc main_while0b_v73 : DevRef τ sig).ty.Contents (Elt F)) = Cert.ReferenceIdeal.Step.b31 j s := by
  unfold Cert.ReferenceIdeal.Step.b31
  rw [← al_29 h, ← al_30 h]
  try rfl
set_option maxRecDepth 8192 in
theorem al_32 (h : Holds V0 s j) : (broadcastInDim S2x20x5000 ![0, 1, 2] bcast_S2x20x1_S2x20x5000_0_1_2 (res_main_while0b_v64 V0) : (Proc.devRef .tc main_while0b_v74 : DevRef τ sig).ty.Contents (Elt F)) = Cert.ReferenceIdeal.Step.b32 j s := by
  unfold Cert.ReferenceIdeal.Step.b32
  rw [← al_22 h]
  try rfl
set_option maxRecDepth 8192 in
theorem al_33 (h : Holds V0 s j) : (broadcastInDim S2x20x5000 ![0, 1, 2] bcast_S2x1x5000_S2x20x5000_0_1_2 (V0 (Proc.devRef .tc main_v21_3)) : (Proc.devRef .tc main_while0b_v75 : DevRef τ sig).ty.Contents (Elt F)) = Cert.ReferenceIdeal.Step.b33 j s := by
  unfold Cert.ReferenceIdeal.Step.b33
  rw [h.f_3]
  try rfl
set_option maxRecDepth 8192 in
theorem al_34 (h : Holds V0 s j) : (minimumf (broadcastInDim S2x20x5000 ![0, 1, 2] bcast_S2x20x1_S2x20x5000_0_1_2 (res_main_while0b_v64 V0)) (broadcastInDim S2x20x5000 ![0, 1, 2] bcast_S2x1x5000_S2x20x5000_0_1_2 (V0 (Proc.devRef .tc main_v21_3))) : (Proc.devRef .tc main_while0b_v76 : DevRef τ sig).ty.Contents (Elt F)) = Cert.ReferenceIdeal.Step.b34 j s := by
  unfold Cert.ReferenceIdeal.Step.b34
  rw [← al_32 h, ← al_33 h]
  try rfl
set_option maxRecDepth 8192 in
theorem al_35 (h : Holds V0 s j) : (broadcastInDim S2x20x5000 ![0, 1, 2] bcast_S2x20x1_S2x20x5000_0_1_2 (res_main_while0b_v67 V0) : (Proc.devRef .tc main_while0b_v77 : DevRef τ sig).ty.Contents (Elt F)) = Cert.ReferenceIdeal.Step.b35 j s := by
  unfold Cert.ReferenceIdeal.Step.b35
  rw [← al_25 h]
  try rfl
set_option maxRecDepth 8192 in
theorem al_36 (h : Holds V0 s j) : (broadcastInDim S2x20x5000 ![0, 1, 2] bcast_S2x1x5000_S2x20x5000_0_1_2 (V0 (Proc.devRef .tc main_v21_4)) : (Proc.devRef .tc main_while0b_v78 : DevRef τ sig).ty.Contents (Elt F)) = Cert.ReferenceIdeal.Step.b36 j s := by
  unfold Cert.ReferenceIdeal.Step.b36
  rw [h.f_4]
  try rfl
set_option maxRecDepth 8192 in
theorem al_37 (h : Holds V0 s j) : (minimumf (broadcastInDim S2x20x5000 ![0, 1, 2] bcast_S2x20x1_S2x20x5000_0_1_2 (res_main_while0b_v67 V0)) (broadcastInDim S2x20x5000 ![0, 1, 2] bcast_S2x1x5000_S2x20x5000_0_1_2 (V0 (Proc.devRef .tc main_v21_4))) : (Proc.devRef .tc main_while0b_v79 : DevRef τ sig).ty.Contents (Elt F)) = Cert.ReferenceIdeal.Step.b37 j s := by
  unfold Cert.ReferenceIdeal.Step.b37
  rw [← al_35 h, ← al_36 h]
  try rfl
set_option maxRecDepth 8192 in
theorem al_38 (h : Holds V0 s j) : (subf (minimumf (broadcastInDim S2x20x5000 ![0, 1, 2] bcast_S2x20x1_S2x20x5000_0_1_2 (res_main_while0b_v64 V0)) (broadcastInDim S2x20x5000 ![0, 1, 2] bcast_S2x1x5000_S2x20x5000_0_1_2 (V0 (Proc.devRef .tc main_v21_3)))) (maximumf (broadcastInDim S2x20x5000 ![0, 1, 2] bcast_S2x20x1_S2x20x5000_0_1_2 (res_main_while0b_v58 V0)) (broadcastInDim S2x20x5000 ![0, 1, 2] bcast_S2x1x5000_S2x20x5000_0_1_2 (V0 (Proc.devRef .tc main_v21_1)))) : (Proc.devRef .tc main_while0b_v80 : DevRef τ sig).ty.Contents (Elt F)) = Cert.ReferenceIdeal.Step.b38 j s := by
  unfold Cert.ReferenceIdeal.Step.b38
  rw [← al_34 h, ← al_28 h]
  try rfl
set_option maxRecDepth 8192 in
theorem al_39 (h : Holds V0 s j) : (constant S_ .f32 0x00000000#32 : (Proc.devRef .tc main_while0b_cst_19 : DevRef τ sig).ty.Contents (Elt F)) = Cert.ReferenceIdeal.Step.b39 j s := by
  unfold Cert.ReferenceIdeal.Step.b39
  rfl
set_option maxRecDepth 8192 in
theorem al_40 (h : Holds V0 s j) : (broadcastInDim S2x20x5000 ![] bcast_S_S2x20x5000 (constant S_ .f32 0x00000000#32) : (Proc.devRef .tc main_while0b_v81 : DevRef τ sig).ty.Contents (Elt F)) = Cert.ReferenceIdeal.Step.b40 j s := by
  unfold Cert.ReferenceIdeal.Step.b40
  rw [← al_39 h]
  try rfl
set_option maxRecDepth 8192 in
theorem al_41 (h : Holds V0 s j) : (maximumf (subf (minimumf (broadcastInDim S2x20x5000 ![0, 1, 2] bcast_S2x20x1_S2x20x5000_0_1_2 (res_main_while0b_v64 V0)) (broadcastInDim S2x20x5000 ![0, 1, 2] bcast_S2x1x5000_S2x20x5000_0_1_2 (V0 (Proc.devRef .tc main_v21_3)))) (maximumf (broadcastInDim S2x20x5000 ![0, 1, 2] bcast_S2x20x1_S2x20x5000_0_1_2 (res_main_while0b_v58 V0)) (broadcastInDim S2x20x5000 ![0, 1, 2] bcast_S2x1x5000_S2x20x5000_0_1_2 (V0 (Proc.devRef .tc main_v21_1))))) (broadcastInDim S2x20x5000 ![] bcast_S_S2x20x5000 (constant S_ .f32 0x00000000#32)) : (Proc.devRef .tc main_while0b_v82 : DevRef τ sig).ty.Contents (Elt F)) = Cert.ReferenceIdeal.Step.b41 j s := by
  unfold Cert.ReferenceIdeal.Step.b41
  rw [← al_38 h, ← al_40 h]
  try rfl
set_option maxRecDepth 8192 in
theorem al_42 (h : Holds V0 s j) : (subf (minimumf (broadcastInDim S2x20x5000 ![0, 1, 2] bcast_S2x20x1_S2x20x5000_0_1_2 (res_main_while0b_v67 V0)) (broadcastInDim S2x20x5000 ![0, 1, 2] bcast_S2x1x5000_S2x20x5000_0_1_2 (V0 (Proc.devRef .tc main_v21_4)))) (maximumf (broadcastInDim S2x20x5000 ![0, 1, 2] bcast_S2x20x1_S2x20x5000_0_1_2 (res_main_while0b_v61 V0)) (broadcastInDim S2x20x5000 ![0, 1, 2] bcast_S2x1x5000_S2x20x5000_0_1_2 (V0 (Proc.devRef .tc main_v21_2)))) : (Proc.devRef .tc main_while0b_v83 : DevRef τ sig).ty.Contents (Elt F)) = Cert.ReferenceIdeal.Step.b42 j s := by
  unfold Cert.ReferenceIdeal.Step.b42
  rw [← al_37 h, ← al_31 h]
  try rfl
set_option maxRecDepth 8192 in
theorem al_43 (h : Holds V0 s j) : (constant S_ .f32 0x00000000#32 : (Proc.devRef .tc main_while0b_cst_20 : DevRef τ sig).ty.Contents (Elt F)) = Cert.ReferenceIdeal.Step.b43 j s := by
  unfold Cert.ReferenceIdeal.Step.b43
  rfl
set_option maxRecDepth 8192 in
theorem al_44 (h : Holds V0 s j) : (broadcastInDim S2x20x5000 ![] bcast_S_S2x20x5000 (constant S_ .f32 0x00000000#32) : (Proc.devRef .tc main_while0b_v84 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (maximumf (subf (minimumf (broadcastInDim S2x20x5000 ![0, 1, 2] bcast_S2x20x1_S2x20x5000_0_1_2 (res_main_while0b_v67 V0)) (broadcastInDim S2x20x5000 ![0, 1, 2] bcast_S2x1x5000_S2x20x5000_0_1_2 (V0 (Proc.devRef .tc main_v21_4)))) (maximumf (broadcastInDim S2x20x5000 ![0, 1, 2] bcast_S2x20x1_S2x20x5000_0_1_2 (res_main_while0b_v61 V0)) (broadcastInDim S2x20x5000 ![0, 1, 2] bcast_S2x1x5000_S2x20x5000_0_1_2 (V0 (Proc.devRef .tc main_v21_2))))) (broadcastInDim S2x20x5000 ![] bcast_S_S2x20x5000 (constant S_ .f32 0x00000000#32)) : (Proc.devRef .tc main_while0b_v85 : DevRef τ sig).ty.Contents (Elt F)) = Cert.ReferenceIdeal.Step.b45 j s := by
  unfold Cert.ReferenceIdeal.Step.b45
  rw [← al_42 h, ← al_44 h]
  try rfl
set_option maxRecDepth 8192 in
theorem al_46 (h : Holds V0 s j) : (res_main_while0b_v86 V0 : (Proc.devRef .tc main_while0b_v86 : DevRef τ sig).ty.Contents (Elt F)) = Cert.ReferenceIdeal.Step.b46 j s := by
  unfold res_main_while0b_v86 Cert.ReferenceIdeal.Step.b46
  rw [← al_41 h, ← al_45 h]
  try rfl
set_option maxRecDepth 8192 in
theorem al_47 (h : Holds V0 s j) : (subf (res_main_while0b_v64 V0) (res_main_while0b_v58 V0) : (Proc.devRef .tc main_while0b_v87 : DevRef τ sig).ty.Contents (Elt F)) = Cert.ReferenceIdeal.Step.b47 j s := by
  unfold Cert.ReferenceIdeal.Step.b47
  rw [← al_22 h, ← al_16 h]
  try rfl
set_option maxRecDepth 8192 in
theorem al_48 (h : Holds V0 s j) : (subf (res_main_while0b_v67 V0) (res_main_while0b_v61 V0) : (Proc.devRef .tc main_while0b_v88 : DevRef τ sig).ty.Contents (Elt F)) = Cert.ReferenceIdeal.Step.b48 j s := by
  unfold Cert.ReferenceIdeal.Step.b48
  rw [← al_25 h, ← al_19 h]
  try rfl
set_option maxRecDepth 8192 in
theorem al_49 (h : Holds V0 s j) : (mulf (subf (res_main_while0b_v64 V0) (res_main_while0b_v58 V0)) (subf (res_main_while0b_v67 V0) (res_main_while0b_v61 V0)) : (Proc.devRef .tc main_while0b_v89 : DevRef τ sig).ty.Contents (Elt F)) = Cert.ReferenceIdeal.Step.b49 j s := by
  unfold Cert.ReferenceIdeal.Step.b49
  rw [← al_47 h, ← al_48 h]
  try rfl
set_option maxRecDepth 8192 in
theorem al_50 (h : Holds V0 s j) : (broadcastInDim S2x20x5000 ![0, 1, 2] bcast_S2x20x1_S2x20x5000_0_1_2 (mulf (subf (res_main_while0b_v64 V0) (res_main_while0b_v58 V0)) (subf (res_main_while0b_v67 V0) (res_main_while0b_v61 V0))) : (Proc.devRef .tc main_while0b_v90 : DevRef τ sig).ty.Contents (Elt F)) = Cert.ReferenceIdeal.Step.b50 j s := by
  unfold Cert.ReferenceIdeal.Step.b50
  rw [← al_49 h]
  try rfl
set_option maxRecDepth 8192 in
theorem al_51 (h : Holds V0 s j) : (broadcastInDim S2x20x5000 ![0, 1, 2] bcast_S2x1x5000_S2x20x5000_0_1_2 (V0 (Proc.devRef .tc main_v21_5)) : (Proc.devRef .tc main_while0b_v91 : DevRef τ sig).ty.Contents (Elt F)) = Cert.ReferenceIdeal.Step.b51 j s := by
  unfold Cert.ReferenceIdeal.Step.b51
  rw [h.f_5]
  try rfl
set_option maxRecDepth 8192 in
theorem al_52 (h : Holds V0 s j) : (addf (broadcastInDim S2x20x5000 ![0, 1, 2] bcast_S2x20x1_S2x20x5000_0_1_2 (mulf (subf (res_main_while0b_v64 V0) (res_main_while0b_v58 V0)) (subf (res_main_while0b_v67 V0) (res_main_while0b_v61 V0)))) (broadcastInDim S2x20x5000 ![0, 1, 2] bcast_S2x1x5000_S2x20x5000_0_1_2 (V0 (Proc.devRef .tc main_v21_5))) : (Proc.devRef .tc main_while0b_v92 : DevRef τ sig).ty.Contents (Elt F)) = Cert.ReferenceIdeal.Step.b52 j s := by
  unfold Cert.ReferenceIdeal.Step.b52
  rw [← al_50 h, ← al_51 h]
  try rfl
set_option maxRecDepth 8192 in
theorem al_53 (h : Holds V0 s j) : (res_main_while0b_v93 V0 : (Proc.devRef .tc main_while0b_v93 : DevRef τ sig).ty.Contents (Elt F)) = Cert.ReferenceIdeal.Step.b53 j s := by
  unfold res_main_while0b_v93 Cert.ReferenceIdeal.Step.b53
  rw [← al_52 h, ← al_46 h]
  try rfl
set_option maxRecDepth 8192 in
theorem al_54 (h : Holds V0 s j) : (constant S_ .f32 0x00000000#32 : (Proc.devRef .tc main_while0b_cst_21 : DevRef τ sig).ty.Contents (Elt F)) = Cert.ReferenceIdeal.Step.b54 j s := by
  unfold Cert.ReferenceIdeal.Step.b54
  rfl
set_option maxRecDepth 8192 in
theorem al_55 (h : Holds V0 s j) : (broadcastInDim S2x20x5000 ![] bcast_S_S2x20x5000 (constant S_ .f32 0x00000000#32) : (Proc.devRef .tc main_while0b_v94 : DevRef τ sig).ty.Contents (Elt F)) = Cert.ReferenceIdeal.Step.b55 j s := by
  unfold Cert.ReferenceIdeal.Step.b55
  rw [← al_54 h]
  try rfl
set_option maxRecDepth 8192 in
theorem al_56 (h : Holds V0 s j) : (cmpf .ogt (res_main_while0b_v93 V0) (broadcastInDim S2x20x5000 ![] bcast_S_S2x20x5000 (constant S_ .f32 0x00000000#32)) : (Proc.devRef .tc main_while0b_v95 : DevRef τ sig).ty.Contents (Elt F)) = Cert.ReferenceIdeal.Step.b56 j s := by
  unfold Cert.ReferenceIdeal.Step.b56
  rw [← al_53 h, ← al_55 h]
  try rfl
set_option maxRecDepth 8192 in
theorem al_57 (h : Holds V0 s j) : (Host.divf (res_main_while0b_v86 V0) (res_main_while0b_v93 V0) : (Proc.devRef .tc main_while0b_v96 : DevRef τ sig).ty.Contents (Elt F)) = Cert.ReferenceIdeal.Step.b57 j s := by
  unfold Cert.ReferenceIdeal.Step.b57
  rw [← al_46 h, ← al_53 h]
  try rfl
set_option maxRecDepth 8192 in
theorem al_58 (h : Holds V0 s j) : (constant S_ .f32 0x00000000#32 : (Proc.devRef .tc main_while0b_cst_22 : DevRef τ sig).ty.Contents (Elt F)) = Cert.ReferenceIdeal.Step.b58 j s := by
  unfold Cert.ReferenceIdeal.Step.b58
  rfl
set_option maxRecDepth 8192 in
theorem al_59 (h : Holds V0 s j) : (id (constant S_ .f32 0x00000000#32) : (Proc.devRef .tc main_while0b_call1_v0 : DevRef τ sig).ty.Contents (Elt F)) = Cert.ReferenceIdeal.Step.b59 j s := by
  unfold Cert.ReferenceIdeal.Step.b59
  rw [← al_58 h]
  try rfl
set_option maxRecDepth 8192 in
theorem al_60 (h : Holds V0 s j) : (broadcastInDim S2x20x5000 ![] bcast_S_S2x20x5000 (id (constant S_ .f32 0x00000000#32)) : (Proc.devRef .tc main_while0b_call1_v1 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (select (cmpf .ogt (res_main_while0b_v93 V0) (broadcastInDim S2x20x5000 ![] bcast_S_S2x20x5000 (constant S_ .f32 0x00000000#32))) (Host.divf (res_main_while0b_v86 V0) (res_main_while0b_v93 V0)) (broadcastInDim S2x20x5000 ![] bcast_S_S2x20x5000 (id (constant S_ .f32 0x00000000#32))) : (Proc.devRef .tc main_while0b_v97 : DevRef τ sig).ty.Contents (Elt F)) = Cert.ReferenceIdeal.Step.b61 j s := by
  unfold Cert.ReferenceIdeal.Step.b61
  rw [← al_56 h, ← al_57 h, ← al_60 h]
  try rfl
set_option maxRecDepth 8192 in
theorem al_62 (h : Holds V0 s j) : (constant S_ .f32 0x3F000000#32 : (Proc.devRef .tc main_while0b_cst_23 : DevRef τ sig).ty.Contents (Elt F)) = Cert.ReferenceIdeal.Step.b62 j s := by
  unfold Cert.ReferenceIdeal.Step.b62
  rfl
set_option maxRecDepth 8192 in
theorem al_63 (h : Holds V0 s j) : (broadcastInDim S2x20x5000 ![] bcast_S_S2x20x5000 (constant S_ .f32 0x3F000000#32) : (Proc.devRef .tc main_while0b_v98 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (cmpf .ogt (select (cmpf .ogt (res_main_while0b_v93 V0) (broadcastInDim S2x20x5000 ![] bcast_S_S2x20x5000 (constant S_ .f32 0x00000000#32))) (Host.divf (res_main_while0b_v86 V0) (res_main_while0b_v93 V0)) (broadcastInDim S2x20x5000 ![] bcast_S_S2x20x5000 (id (constant S_ .f32 0x00000000#32)))) (broadcastInDim S2x20x5000 ![] bcast_S_S2x20x5000 (constant S_ .f32 0x3F000000#32)) : (Proc.devRef .tc main_while0b_v99 : DevRef τ sig).ty.Contents (Elt F)) = Cert.ReferenceIdeal.Step.b64 j s := by
  unfold Cert.ReferenceIdeal.Step.b64
  rw [← al_61 h, ← al_63 h]
  try rfl
set_option maxRecDepth 8192 in
theorem al_65 (h : Holds V0 s j) : (broadcastInDim S2x20x1 ![0, 1] bcast_S2x20_S2x20x1_0_1 (res_main_while0b_v48 V0) : (Proc.devRef .tc main_while0b_v100 : DevRef τ sig).ty.Contents (Elt F)) = Cert.ReferenceIdeal.Step.b65 j s := by
  unfold Cert.ReferenceIdeal.Step.b65
  rw [← al_6 h]
  try rfl
set_option maxRecDepth 8192 in
theorem al_66 (h : Holds V0 s j) : (broadcastInDim S2x20x5000 ![0, 1, 2] bcast_S2x20x1_S2x20x5000_0_1_2 (broadcastInDim S2x20x1 ![0, 1] bcast_S2x20_S2x20x1_0_1 (res_main_while0b_v48 V0)) : (Proc.devRef .tc main_while0b_v101 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (andi (broadcastInDim S2x20x5000 ![0, 1, 2] bcast_S2x20x1_S2x20x5000_0_1_2 (broadcastInDim S2x20x1 ![0, 1] bcast_S2x20_S2x20x1_0_1 (res_main_while0b_v48 V0))) (cmpf .ogt (select (cmpf .ogt (res_main_while0b_v93 V0) (broadcastInDim S2x20x5000 ![] bcast_S_S2x20x5000 (constant S_ .f32 0x00000000#32))) (Host.divf (res_main_while0b_v86 V0) (res_main_while0b_v93 V0)) (broadcastInDim S2x20x5000 ![] bcast_S_S2x20x5000 (id (constant S_ .f32 0x00000000#32)))) (broadcastInDim S2x20x5000 ![] bcast_S_S2x20x5000 (constant S_ .f32 0x3F000000#32))) : (Proc.devRef .tc main_while0b_v102 : DevRef τ sig).ty.Contents (Elt F)) = Cert.ReferenceIdeal.Step.b67 j s := by
  unfold Cert.ReferenceIdeal.Step.b67
  rw [← al_66 h, ← al_64 h]
  try rfl
set_option maxRecDepth 8192 in
theorem al_68 (h : Holds V0 s j) : (constant S_ .f32 0xCE6E6B28#32 : (Proc.devRef .tc main_while0b_cst_24 : DevRef τ sig).ty.Contents (Elt F)) = Cert.ReferenceIdeal.Step.b68 j s := by
  unfold Cert.ReferenceIdeal.Step.b68
  rfl
set_option maxRecDepth 8192 in
theorem al_69 (h : Holds V0 s j) : (id (constant S_ .f32 0xCE6E6B28#32) : (Proc.devRef .tc main_while0b_call2_v0 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (broadcastInDim S2x20x5000 ![] bcast_S_S2x20x5000 (id (constant S_ .f32 0xCE6E6B28#32)) : (Proc.devRef .tc main_while0b_call2_v1 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (select (andi (broadcastInDim S2x20x5000 ![0, 1, 2] bcast_S2x20x1_S2x20x5000_0_1_2 (broadcastInDim S2x20x1 ![0, 1] bcast_S2x20_S2x20x1_0_1 (res_main_while0b_v48 V0))) (cmpf .ogt (select (cmpf .ogt (res_main_while0b_v93 V0) (broadcastInDim S2x20x5000 ![] bcast_S_S2x20x5000 (constant S_ .f32 0x00000000#32))) (Host.divf (res_main_while0b_v86 V0) (res_main_while0b_v93 V0)) (broadcastInDim S2x20x5000 ![] bcast_S_S2x20x5000 (id (constant S_ .f32 0x00000000#32)))) (broadcastInDim S2x20x5000 ![] bcast_S_S2x20x5000 (constant S_ .f32 0x3F000000#32)))) (broadcastInDim S2x20x5000 ![] bcast_S_S2x20x5000 (id (constant S_ .f32 0xCE6E6B28#32))) (V0 (Proc.devRef .tc main_v21_7)) : (Proc.devRef .tc main_while0b_v103 : DevRef τ sig).ty.Contents (Elt F)) = Cert.ReferenceIdeal.Step.b71 j s := by
  unfold Cert.ReferenceIdeal.Step.b71
  rw [← al_67 h, ← al_70 h, h.f_7]
  try rfl
set_option maxRecDepth 8192 in
theorem al_72 (h : Holds V0 s j) : (iotaInDim S5000 32 0 : (Proc.devRef .tc main_while0b_v104 : DevRef τ sig).ty.Contents (Elt F)) = Cert.ReferenceIdeal.Step.b72 j s := by
  unfold Cert.ReferenceIdeal.Step.b72
  rfl
set_option maxRecDepth 8192 in
theorem al_73 (h : Holds V0 s j) : (broadcastInDim S2x20x1 ![0, 1] bcast_S2x20_S2x20x1_0_1 (res_main_while0b_v46 V0) : (Proc.devRef .tc main_while0b_v105 : DevRef τ sig).ty.Contents (Elt F)) = Cert.ReferenceIdeal.Step.b73 j s := by
  unfold Cert.ReferenceIdeal.Step.b73
  rw [← al_3 h]
  try rfl
set_option maxRecDepth 8192 in
theorem al_74 (h : Holds V0 s j) : (broadcastInDim S1x1x5000 ![2] bcast_S5000_S1x1x5000_2 (iotaInDim S5000 32 0) : (Proc.devRef .tc main_while0b_v106 : DevRef τ sig).ty.Contents (Elt F)) = Cert.ReferenceIdeal.Step.b74 j s := by
  unfold Cert.ReferenceIdeal.Step.b74
  rw [← al_72 h]
  try rfl
set_option maxRecDepth 8192 in
theorem al_75 (h : Holds V0 s j) : (broadcastInDim S2x20x5000 ![0, 1, 2] bcast_S1x1x5000_S2x20x5000_0_1_2 (broadcastInDim S1x1x5000 ![2] bcast_S5000_S1x1x5000_2 (iotaInDim S5000 32 0)) : (Proc.devRef .tc main_while0b_v107 : DevRef τ sig).ty.Contents (Elt F)) = Cert.ReferenceIdeal.Step.b75 j s := by
  unfold Cert.ReferenceIdeal.Step.b75
  rw [← al_74 h]
  try rfl
set_option maxRecDepth 8192 in
theorem al_76 (h : Holds V0 s j) : (broadcastInDim S2x20x5000 ![0, 1, 2] bcast_S2x20x1_S2x20x5000_0_1_2 (broadcastInDim S2x20x1 ![0, 1] bcast_S2x20_S2x20x1_0_1 (res_main_while0b_v46 V0)) : (Proc.devRef .tc main_while0b_v108 : DevRef τ sig).ty.Contents (Elt F)) = Cert.ReferenceIdeal.Step.b76 j s := by
  unfold Cert.ReferenceIdeal.Step.b76
  rw [← al_73 h]
  try rfl
set_option maxRecDepth 8192 in
theorem al_77 (h : Holds V0 s j) : (cmpi .eq (broadcastInDim S2x20x5000 ![0, 1, 2] bcast_S1x1x5000_S2x20x5000_0_1_2 (broadcastInDim S1x1x5000 ![2] bcast_S5000_S1x1x5000_2 (iotaInDim S5000 32 0))) (broadcastInDim S2x20x5000 ![0, 1, 2] bcast_S2x20x1_S2x20x5000_0_1_2 (broadcastInDim S2x20x1 ![0, 1] bcast_S2x20_S2x20x1_0_1 (res_main_while0b_v46 V0))) : (Proc.devRef .tc main_while0b_v109 : DevRef τ sig).ty.Contents (Elt F)) = Cert.ReferenceIdeal.Step.b77 j s := by
  unfold Cert.ReferenceIdeal.Step.b77
  rw [← al_75 h, ← al_76 h]
  try rfl
set_option maxRecDepth 8192 in
theorem al_78 (h : Holds V0 s j) : (constant S_ .f32 0xCE6E6B28#32 : (Proc.devRef .tc main_while0b_cst_25 : DevRef τ sig).ty.Contents (Elt F)) = Cert.ReferenceIdeal.Step.b78 j s := by
  unfold Cert.ReferenceIdeal.Step.b78
  rfl
set_option maxRecDepth 8192 in
theorem al_79 (h : Holds V0 s j) : (id (constant S_ .f32 0xCE6E6B28#32) : (Proc.devRef .tc main_while0b_call3_v0 : DevRef τ sig).ty.Contents (Elt F)) = Cert.ReferenceIdeal.Step.b79 j s := by
  unfold Cert.ReferenceIdeal.Step.b79
  rw [← al_78 h]
  try rfl
set_option maxRecDepth 8192 in
theorem al_80 (h : Holds V0 s j) : (broadcastInDim S2x20x5000 ![] bcast_S_S2x20x5000 (id (constant S_ .f32 0xCE6E6B28#32)) : (Proc.devRef .tc main_while0b_call3_v1 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (select (cmpi .eq (broadcastInDim S2x20x5000 ![0, 1, 2] bcast_S1x1x5000_S2x20x5000_0_1_2 (broadcastInDim S1x1x5000 ![2] bcast_S5000_S1x1x5000_2 (iotaInDim S5000 32 0))) (broadcastInDim S2x20x5000 ![0, 1, 2] bcast_S2x20x1_S2x20x5000_0_1_2 (broadcastInDim S2x20x1 ![0, 1] bcast_S2x20_S2x20x1_0_1 (res_main_while0b_v46 V0)))) (broadcastInDim S2x20x5000 ![] bcast_S_S2x20x5000 (id (constant S_ .f32 0xCE6E6B28#32))) (select (andi (broadcastInDim S2x20x5000 ![0, 1, 2] bcast_S2x20x1_S2x20x5000_0_1_2 (broadcastInDim S2x20x1 ![0, 1] bcast_S2x20_S2x20x1_0_1 (res_main_while0b_v48 V0))) (cmpf .ogt (select (cmpf .ogt (res_main_while0b_v93 V0) (broadcastInDim S2x20x5000 ![] bcast_S_S2x20x5000 (constant S_ .f32 0x00000000#32))) (Host.divf (res_main_while0b_v86 V0) (res_main_while0b_v93 V0)) (broadcastInDim S2x20x5000 ![] bcast_S_S2x20x5000 (id (constant S_ .f32 0x00000000#32)))) (broadcastInDim S2x20x5000 ![] bcast_S_S2x20x5000 (constant S_ .f32 0x3F000000#32)))) (broadcastInDim S2x20x5000 ![] bcast_S_S2x20x5000 (id (constant S_ .f32 0xCE6E6B28#32))) (V0 (Proc.devRef .tc main_v21_7))) : (Proc.devRef .tc main_while0b_v110 : DevRef τ sig).ty.Contents (Elt F)) = Cert.ReferenceIdeal.Step.b81 j s := by
  unfold Cert.ReferenceIdeal.Step.b81
  rw [← al_77 h, ← al_80 h, ← al_71 h]
  try rfl
set_option maxRecDepth 8192 in
theorem al_82 (h : Holds V0 s j) : (constant S_ .f32 0xCE6E6B28#32 : (Proc.devRef .tc main_while0b_cst_26 : DevRef τ sig).ty.Contents (Elt F)) = Cert.ReferenceIdeal.Step.b82 j s := by
  unfold Cert.ReferenceIdeal.Step.b82
  rfl
set_option maxRecDepth 8192 in
theorem al_83 (h : Holds V0 s j) : (id (constant S_ .f32 0xCE6E6B28#32) : (Proc.devRef .tc main_while0b_call4_v0 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (broadcastInDim S2x20 ![] bcast_S_S2x20 (id (constant S_ .f32 0xCE6E6B28#32)) : (Proc.devRef .tc main_while0b_call4_v1 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (select (res_main_while0b_v48 V0) (res_main_while0b_v45 V0) (broadcastInDim S2x20 ![] bcast_S_S2x20 (id (constant S_ .f32 0xCE6E6B28#32))) : (Proc.devRef .tc main_while0b_v111 : DevRef τ sig).ty.Contents (Elt F)) = Cert.ReferenceIdeal.Step.b85 j s := by
  unfold Cert.ReferenceIdeal.Step.b85
  rw [← al_6 h, ← al_2 h, ← al_84 h]
  try rfl
set_option maxRecDepth 8192 in
theorem al_86 (h : Holds V0 s j) : (broadcastInDim S1x2x20 ![1, 2] bcast_S2x20_S1x2x20_1_2 (select (res_main_while0b_v48 V0) (res_main_while0b_v45 V0) (broadcastInDim S2x20 ![] bcast_S_S2x20 (id (constant S_ .f32 0xCE6E6B28#32)))) : (Proc.devRef .tc main_while0b_call5_v0 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (constantI S_ 32 0#32 : (Proc.devRef .tc main_while0b_call5_c : DevRef τ sig).ty.Contents (Elt F)) = Cert.ReferenceIdeal.Step.b87 j s := by
  unfold Cert.ReferenceIdeal.Step.b87
  rfl
set_option maxRecDepth 8192 in
theorem al_88 (h : Holds V0 s j) : (constantI S_ 32 0#32 : (Proc.devRef .tc main_while0b_call5_c_0 : DevRef τ sig).ty.Contents (Elt F)) = Cert.ReferenceIdeal.Step.b88 j s := by
  unfold Cert.ReferenceIdeal.Step.b88
  rfl
set_option maxRecDepth 8192 in
theorem al_89 (h : Holds V0 s j) : (Host.dynamicUpdateSlice (V0 (Proc.devRef .tc main_v21_8)) (broadcastInDim S1x2x20 ![1, 2] bcast_S2x20_S1x2x20_1_2 (select (res_main_while0b_v48 V0) (res_main_while0b_v45 V0) (broadcastInDim S2x20 ![] bcast_S_S2x20 (id (constant S_ .f32 0xCE6E6B28#32))))) (fun k => (((![V0 (Proc.devRef .tc main_v21_6), constantI S_ 32 0#32, constantI S_ 32 0#32] : Fin 3 → (⟨S_, .i32⟩ : BufTy).Contents (Elt F))) k (Shape.Idx.first h_S_)).toInt) updateFits_S300x2x20_S1x2x20 : (Proc.devRef .tc main_while0b_v112 : DevRef τ sig).ty.Contents (Elt F)) = Cert.ReferenceIdeal.Step.b89 j s := by
  unfold Cert.ReferenceIdeal.Step.b89
  rw [← al_86 h, ← al_87 h, ← al_88 h, h.f_8, h.n_6]
  try rfl
set_option maxRecDepth 8192 in
theorem al_90 (h : Holds V0 s j) : (broadcastInDim S1x2x20x4 ![1, 2, 3] bcast_S2x20x4_S1x2x20x4_1_2_3 (res_main_while0b_v55 V0) : (Proc.devRef .tc main_while0b_call6_v0 : DevRef τ sig).ty.Contents (Elt F)) = Cert.ReferenceIdeal.Step.b90 j s := by
  unfold Cert.ReferenceIdeal.Step.b90
  rw [← al_13 h]
  try rfl
set_option maxRecDepth 8192 in
theorem al_91 (h : Holds V0 s j) : (constantI S_ 32 0#32 : (Proc.devRef .tc main_while0b_call6_c : DevRef τ sig).ty.Contents (Elt F)) = Cert.ReferenceIdeal.Step.b91 j s := by
  unfold Cert.ReferenceIdeal.Step.b91
  rfl
set_option maxRecDepth 8192 in
theorem al_92 (h : Holds V0 s j) : (constantI S_ 32 0#32 : (Proc.devRef .tc main_while0b_call6_c_0 : DevRef τ sig).ty.Contents (Elt F)) = Cert.ReferenceIdeal.Step.b92 j s := by
  unfold Cert.ReferenceIdeal.Step.b92
  rfl
set_option maxRecDepth 8192 in
theorem al_93 (h : Holds V0 s j) : (constantI S_ 32 0#32 : (Proc.devRef .tc main_while0b_call6_c_1 : DevRef τ sig).ty.Contents (Elt F)) = Cert.ReferenceIdeal.Step.b93 j s := by
  unfold Cert.ReferenceIdeal.Step.b93
  rfl
set_option maxRecDepth 8192 in
theorem al_94 (h : Holds V0 s j) : (Host.dynamicUpdateSlice (V0 (Proc.devRef .tc main_v21_9)) (broadcastInDim S1x2x20x4 ![1, 2, 3] bcast_S2x20x4_S1x2x20x4_1_2_3 (res_main_while0b_v55 V0)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) updateFits_S300x2x20x4_S1x2x20x4 : (Proc.devRef .tc main_while0b_v113 : DevRef τ sig).ty.Contents (Elt F)) = Cert.ReferenceIdeal.Step.b94 j s := by
  unfold Cert.ReferenceIdeal.Step.b94
  rw [← al_90 h, ← al_91 h, ← al_92 h, ← al_93 h, h.f_9, h.n_6]
  try rfl

/-! One trip's step of the carried values is `step`, field by field; a counter steps to the next number. -/

theorem step_7 (h : Holds V0 s j) : step_main_v21_7 V0 = (step j s).main_v21_7 := by
  unfold step_main_v21_7 Cert.ReferenceIdeal.Step.step
  show id (select (cmpi .eq (broadcastInDim S2x20x5000 ![0, 1, 2] bcast_S1x1x5000_S2x20x5000_0_1_2 (broadcastInDim S1x1x5000 ![2] bcast_S5000_S1x1x5000_2 (iotaInDim S5000 32 0))) (broadcastInDim S2x20x5000 ![0, 1, 2] bcast_S2x20x1_S2x20x5000_0_1_2 (broadcastInDim S2x20x1 ![0, 1] bcast_S2x20_S2x20x1_0_1 (res_main_while0b_v46 V0)))) (broadcastInDim S2x20x5000 ![] bcast_S_S2x20x5000 (id (constant S_ .f32 0xCE6E6B28#32))) (select (andi (broadcastInDim S2x20x5000 ![0, 1, 2] bcast_S2x20x1_S2x20x5000_0_1_2 (broadcastInDim S2x20x1 ![0, 1] bcast_S2x20_S2x20x1_0_1 (res_main_while0b_v48 V0))) (cmpf .ogt (select (cmpf .ogt (res_main_while0b_v93 V0) (broadcastInDim S2x20x5000 ![] bcast_S_S2x20x5000 (constant S_ .f32 0x00000000#32))) (Host.divf (res_main_while0b_v86 V0) (res_main_while0b_v93 V0)) (broadcastInDim S2x20x5000 ![] bcast_S_S2x20x5000 (id (constant S_ .f32 0x00000000#32)))) (broadcastInDim S2x20x5000 ![] bcast_S_S2x20x5000 (constant S_ .f32 0x3F000000#32)))) (broadcastInDim S2x20x5000 ![] bcast_S_S2x20x5000 (id (constant S_ .f32 0xCE6E6B28#32))) (V0 (Proc.devRef .tc main_v21_7)))) = _
  rw [al_81 h]
  try rfl
theorem step_8 (h : Holds V0 s j) : step_main_v21_8 V0 = (step j s).main_v21_8 := by
  unfold step_main_v21_8 Cert.ReferenceIdeal.Step.step
  show id (Host.dynamicUpdateSlice (V0 (Proc.devRef .tc main_v21_8)) (broadcastInDim S1x2x20 ![1, 2] bcast_S2x20_S1x2x20_1_2 (select (res_main_while0b_v48 V0) (res_main_while0b_v45 V0) (broadcastInDim S2x20 ![] bcast_S_S2x20 (id (constant S_ .f32 0xCE6E6B28#32))))) (fun k => (((![V0 (Proc.devRef .tc main_v21_6), constantI S_ 32 0#32, constantI S_ 32 0#32] : Fin 3 → (⟨S_, .i32⟩ : BufTy).Contents (Elt F))) k (Shape.Idx.first h_S_)).toInt) updateFits_S300x2x20_S1x2x20) = _
  exact al_89 h
theorem step_9 (h : Holds V0 s j) : step_main_v21_9 V0 = (step j s).main_v21_9 := by
  unfold step_main_v21_9 Cert.ReferenceIdeal.Step.step
  show id (Host.dynamicUpdateSlice (V0 (Proc.devRef .tc main_v21_9)) (broadcastInDim S1x2x20x4 ![1, 2, 3] bcast_S2x20x4_S1x2x20x4_1_2_3 (res_main_while0b_v55 V0)) (fun k => (((![V0 (Proc.devRef .tc main_v21_6), constantI S_ 32 0#32, constantI S_ 32 0#32, constantI S_ 32 0#32] : Fin 4 → (⟨S_, .i32⟩ : BufTy).Contents (Elt F))) k (Shape.Idx.first h_S_)).toInt) updateFits_S300x2x20x4_S1x2x20x4) = _
  exact al_94 h
theorem step_6 (h : Holds V0 s j) : step_main_v21_6 V0 = constantI S_ 32 (BitVec.ofNat 32 (j + 1)) := by
  unfold step_main_v21_6
  rw [h.n_6]
  funext i
  show BitVec.ofNat 32 j + 1#32 = BitVec.ofNat 32 (j + 1)
  simp only [BitVec.ofNat_add]

set_option maxRecDepth 8192 in
theorem out_main_v42_holds (h : Holds V0 s j) : out_main_v42 V0 = Cert.ReferenceIdeal.Step.R_main_v42 s := by
  unfold out_main_v42 Cert.ReferenceIdeal.Step.R_main_v42
  rw [h.f_8, h.f_9]
  try rfl

set_option maxRecDepth 8192 in
theorem out_main_v43_holds (h : Holds V0 s j) : out_main_v43 V0 = Cert.ReferenceIdeal.Step.R_main_v43 s := by
  unfold out_main_v43 Cert.ReferenceIdeal.Step.R_main_v43
  rw [h.f_8]
  try rfl

set_option maxRecDepth 8192 in
theorem out_main_v44_holds (h : Holds V0 s j) : out_main_v44 V0 = Cert.ReferenceIdeal.Step.R_main_v44 s := by
  unfold out_main_v44 Cert.ReferenceIdeal.Step.R_main_v44
  rw [h.f_8]
  try rfl

/-- One trip keeps the valuation holding: `step` of the state, the same set-up values, the next number. -/
theorem holds_step (h : Holds V0 s j) : Holds (STEP V0) (step j s) (j + 1) where
  f_7 := (STEP_main_v21_7 V0).trans (step_7 h)
  f_8 := (STEP_main_v21_8 V0).trans (step_8 h)
  f_9 := (STEP_main_v21_9 V0).trans (step_9 h)
  n_6 := (STEP_main_v21_6 V0).trans (step_6 h)
  f_0 := (STEP_main_v21_0 V0).trans h.f_0
  f_1 := (STEP_main_v21_1 V0).trans h.f_1
  f_2 := (STEP_main_v21_2 V0).trans h.f_2
  f_3 := (STEP_main_v21_3 V0).trans h.f_3
  f_4 := (STEP_main_v21_4 V0).trans h.f_4
  f_5 := (STEP_main_v21_5 V0).trans h.f_5

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 300 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v42) = Cert.ReferenceIdeal.Step.R_main_v42 (it c 300)
      ∧ r.2.mem ((c.tc : Thread nD τ).loc main_v43) = Cert.ReferenceIdeal.Step.R_main_v43 (it c 300)
      ∧ r.2.mem ((c.tc : Thread nD τ).loc main_v44) = Cert.ReferenceIdeal.Step.R_main_v44 (it c 300)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    have hk := holds_iter m c (it c) (h0 c) (hs c) 300
    ⟨(h c).1.trans (out_main_v42_holds hk), (h c).2.1.trans (out_main_v43_holds hk), (h c).2.2.1.trans (out_main_v44_holds hk), (h c).2.2.2.1, (h c).2.2.2.2⟩) (Value.run m ρ)

end Cert.Proof.StepRun

end
-- ==== Proof.Math.Order.lean ====
/-
  Order facts: the fold of a bound that is attained, the first largest entry of a row, and the order in which a
  stable sort by decreasing value puts the entries of a row.
-/
module

public import Idealize.ShloMosaic.PureOps.Ideal.Laws
public import Idealize.ShloMosaic.Lib.SortFacts

@[expose] public section

namespace Cert.Proof.Math

open Idealize.ShloMosaic

/-! ## Folds -/

/-- A value that absorbs the start and every entry absorbs the fold. -/
theorem fold_absorb {ι α : Type} (op : α → α → α) [Std.Commutative op] [Std.Associative op] (a init : α) (f : ι → α)
    (s : Finset ι) (h0 : op a init = a) (h : ∀ i ∈ s, op a (f i) = a) : op a (s.fold op init f) = a := by
  classical
  induction s using Finset.induction_on with
  | empty => simpa using h0
  | insert i s hi ih =>
    rw [Finset.fold_insert hi, ← Std.Associative.assoc (op := op), h i (Finset.mem_insert_self _ _)]
    exact ih fun j hj => h j (Finset.mem_insert_of_mem hj)

/-- The fold is an entry that absorbs the start and every entry. -/
theorem fold_attained {ι α : Type} (op : α → α → α) [Std.Commutative op] [Std.Associative op] (a init : α) (f : ι → α)
    (s : Finset ι) (h0 : op a init = a) (h : ∀ i ∈ s, op a (f i) = a) (i : ι) (hi : i ∈ s) (hf : f i = a) :
    s.fold op init f = a := by
  classical
  rw [← Finset.insert_erase hi, Finset.fold_insert (Finset.notMem_erase _ _), hf]
  exact fold_absorb op a init f _ h0 fun j hj => h j (Finset.mem_of_mem_erase hj)

/-! ## The first largest entry of a row -/

/-- `J` is the first position of the row's largest entry. -/
def IsFirst {n : ℕ} (s : Fin n → EReal) (J : Fin n) : Prop := (∀ i, s i ≤ s J) ∧ ∀ i, i < J → s i < s J

theorem IsFirst.unique {n : ℕ} {s : Fin n → EReal} {J K : Fin n} (hJ : IsFirst s J) (hK : IsFirst s K) : J = K := by
  rcases lt_trichotomy J K with h | h | h
  · exact absurd (hK.2 J h) (not_lt.2 (hJ.1 K))
  · exact h
  · exact absurd (hJ.2 K h) (not_lt.2 (hK.1 J))

/-! ## The order of a stable sort by decreasing value -/

/-- `a` stands before `b`: a larger entry, or an equal one at a smaller position. -/
def Before {n : ℕ} (x : Fin n → EReal) (a b : Fin n) : Prop := x b < x a ∨ (x a = x b ∧ a < b)

theorem Before.trans {n : ℕ} {x : Fin n → EReal} {a b c : Fin n} (h : Before x a b) (h' : Before x b c) : Before x a c := by
  rcases h with h | ⟨h, h1⟩ <;> rcases h' with h' | ⟨h', h2⟩
  · exact .inl (h'.trans h)
  · exact .inl (h' ▸ h)
  · exact .inl (h ▸ h')
  · exact .inr ⟨h.trans h', h1.trans h2⟩

theorem Before.le {n : ℕ} {x : Fin n → EReal} {a b : Fin n} (h : Before x a b) : x b ≤ x a :=
  h.elim le_of_lt fun h => h.1.ge

theorem Before.asymm {n : ℕ} {x : Fin n → EReal} {a b : Fin n} (h : Before x a b) : ¬ Before x b a := by
  rcases h with h | ⟨h, h1⟩ <;> rintro (h' | ⟨h', h2⟩)
  · exact lt_asymm h h'
  · exact absurd h (h' ▸ lt_irrefl _)
  · exact absurd h' (h ▸ lt_irrefl _)
  · exact lt_asymm h1 h2

/-- The sort's relation on positions: strictly larger entries come first. -/
noncomputable def gtAt {n : ℕ} (x : Fin n → EReal) (k k' : Fin n) : Bool := Ideal.cmp .ogt (x k) (x k') == 1#1

theorem gtAt_iff {n : ℕ} (x : Fin n → EReal) (k k' : Fin n) : gtAt x k k' = true ↔ x k' < x k := by
  unfold gtAt Ideal.cmp
  by_cases h : x k' < x k <;> simp [h]

/-- The position whose entry the stable sort by decreasing value puts at `k`. -/
noncomputable def ord {n : ℕ} (x : Fin n → EReal) (k : Fin n) : Fin n := sortedFrom (gtAt x) k

theorem pairwise_insert {n : ℕ} (x : Fin n → EReal) (a : Fin n) (l : List (Fin n)) (ha : ∀ b ∈ l, a < b)
    (hl : l.Pairwise (Before x)) : (insertBefore (gtAt x) a l).Pairwise (Before x) := by
  induction l with
  | nil => exact List.pairwise_singleton _ _
  | cons b l ih =>
    rw [List.pairwise_cons] at hl
    have hab : a < b := ha b List.mem_cons_self
    unfold insertBefore
    split
    · rename_i h
      refine List.pairwise_cons.2 ⟨fun c hc => ?_, ih (fun c hc => ha c (List.mem_cons_of_mem _ hc)) hl.2⟩
      rcases List.mem_cons.1 ((perm_insertBefore _ a l).mem_iff.1 hc) with rfl | hc'
      · exact .inl ((gtAt_iff _ _ _).1 h)
      · exact hl.1 c hc'
    · rename_i h
      have hle : x b ≤ x a := not_lt.1 fun h' => h ((gtAt_iff _ _ _).2 h')
      have hB : Before x a b := hle.lt_or_eq.imp id fun e => ⟨e.symm, hab⟩
      refine List.pairwise_cons.2 ⟨fun c hc => ?_, List.pairwise_cons.2 hl⟩
      rcases List.mem_cons.1 hc with rfl | hc'
      · exact hB
      · exact hB.trans (hl.1 c hc')

theorem pairwise_sorted {n : ℕ} (x : Fin n → EReal) (l : List (Fin n)) (hl : l.Pairwise (· < ·)) :
    (stableSort (gtAt x) l).Pairwise (Before x) := by
  induction l with
  | nil => exact List.Pairwise.nil
  | cons a l ih =>
    rw [List.pairwise_cons] at hl
    unfold stableSort
    exact pairwise_insert x a _ (fun b hb => hl.1 b ((perm_stableSort _ l).mem_iff.1 hb)) (ih hl.2)

/-- Earlier sorted positions hold entries that stand before those of later ones. -/
theorem ord_before {n : ℕ} (x : Fin n → EReal) (i j : Fin n) (h : i < j) : Before x (ord x i) (ord x j) := by
  have hp := List.pairwise_iff_get.1 (pairwise_sorted x (List.finRange n) (List.pairwise_lt_finRange n))
  exact hp _ _ h

theorem ord_injective {n : ℕ} (x : Fin n → EReal) : Function.Injective (ord x) := sortedFrom_injective _

theorem ord_surjective {n : ℕ} (x : Fin n → EReal) : Function.Surjective (ord x) := sortedFrom_surjective _

/-- An entry that none of the first `k` sorted positions holds does not stand before the one at `k`. -/
theorem ord_max {n : ℕ} (x : Fin n → EReal) (k i : Fin n) (hi : ∀ j, j < k → ord x j ≠ i) :
    i = ord x k ∨ Before x (ord x k) i := by
  obtain ⟨j, rfl⟩ := ord_surjective x i
  rcases lt_trichotomy j k with h | h | h
  · exact absurd rfl (hi j h)
  · exact .inl (h ▸ rfl)
  · exact .inr (ord_before x k j h)

/-- The first sorted position is the first largest entry. -/
theorem ord_zero {n : ℕ} (x : Fin n → EReal) (k : Fin n) (hk : k.val = 0) : IsFirst x (ord x k) := by
  have h0 : ∀ i, i = ord x k ∨ Before x (ord x k) i := fun i => ord_max x k i fun j hj => by
    have := Fin.lt_def.1 hj; omega
  refine ⟨fun i => ?_, fun i hi => ?_⟩
  · rcases h0 i with h | h
    · exact h ▸ le_rfl
    · exact h.le
  · rcases h0 i with h | h | ⟨h, h'⟩
    · exact absurd (h ▸ hi) (lt_irrefl _)
    · exact h
    · exact absurd hi (lt_asymm h')

/-! ## The overlap test -/

/-- A quotient that is not positive is below one half. -/
theorem div_le_zero_of_neg {i u : EReal} (hi : 0 ≤ i) (hu : u < 0) : Ideal.div i u ≤ 0 := by
  unfold Ideal.div
  rw [if_neg hu.ne]
  have : u⁻¹ ≤ 0 := EReal.inv_nonpos_of_nonpos hu.le
  exact EReal.mul_nonpos_iff.2 (.inl ⟨hi, this⟩)

/-- Where the overlap is positive, so is the union. -/
theorem union_ne_zero {a b i : EReal} (h : 0 < i) (ha : i ≤ a) (hb : i ≤ b) : a + b - i ≠ 0 := by
  intro h0
  by_cases hi : i = ⊤
  · subst hi
    have ha' : a = ⊤ := top_le_iff.1 ha
    have hb' : b = ⊤ := top_le_iff.1 hb
    subst ha' hb'
    simp at h0
  · have hib : i ≠ ⊥ := (lt_of_le_of_lt bot_le h).ne'
    have : a ≤ a + b - i := by
      lift i to ℝ using ⟨hi, hib⟩
      rw [sub_eq_add_neg, add_assoc]
      have : (0 : EReal) ≤ b + -(i : EReal) := by
        rw [← sub_eq_add_neg]
        exact (EReal.sub_nonneg (.inr (EReal.coe_ne_top i)) (.inr (EReal.coe_ne_bot i))).2 hb
      exact le_add_of_nonneg_right this
    exact absurd h0 ((h.trans_le ha).trans_le this).ne'

/-- The overlap of two boxes along one axis is at most the length of either. -/
theorem overlap_le_left (lo hi lo' hi' : EReal) : min hi hi' - max lo lo' ≤ hi - lo :=
  EReal.sub_le_sub (min_le_left _ _) (le_max_left _ _)

theorem overlap_le_right (lo hi lo' hi' : EReal) : min hi hi' - max lo lo' ≤ hi' - lo' :=
  EReal.sub_le_sub (min_le_right _ _) (le_max_right _ _)

theorem mul_clamped_le {w h w' h' : EReal} (hw : w ≤ w') (hh : h ≤ h') (hpos : 0 < max w 0 * max h 0) :
    max w 0 * max h 0 ≤ w' * h' := by
  have hw0 : 0 < w := by
    by_contra hc
    rw [max_eq_right (not_lt.1 hc), zero_mul] at hpos
    exact lt_irrefl _ hpos
  have hh0 : 0 < h := by
    by_contra hc
    rw [max_eq_right (not_lt.1 hc), mul_zero] at hpos
    exact lt_irrefl _ hpos
  rw [max_eq_left hw0.le, max_eq_left hh0.le]
  exact mul_le_mul hw hh hh0.le (hw0.le.trans hw)

/-- The quotient of overlap and union exceeds one half exactly where it does with the quotient set to zero wherever
    the union is not positive. -/
theorem overlap_test (x1 y1 x2 y2 x1' y1' x2' y2' t : EReal) (ht : 0 < t) :
    let i := max (min x2 x2' - max x1 x1') 0 * max (min y2 y2' - max y1 y1') 0
    let u := (x2 - x1) * (y2 - y1) + (x2' - x1') * (y2' - y1') - i
    t < Ideal.div i u ↔ t < if 0 < u then Ideal.div i u else 0 := by
  intro i u
  have hi : 0 ≤ i := mul_nonneg (le_max_right _ _) (le_max_right _ _)
  by_cases hu : 0 < u
  · rw [if_pos hu]
  · rw [if_neg hu]
    refine iff_of_false (fun h => ?_) (not_lt.2 ht.le)
    rcases (not_lt.1 hu).lt_or_eq with h1 | h1
    · exact absurd (ht.trans h) (not_lt.2 (div_le_zero_of_neg hi h1))
    · rcases hi.lt_or_eq with h2 | h2
      · exact union_ne_zero h2 (mul_clamped_le (overlap_le_left _ _ _ _) (overlap_le_left _ _ _ _) h2)
          (mul_clamped_le (overlap_le_right _ _ _ _) (overlap_le_right _ _ _ _) h2) h1
      · unfold Ideal.div at h
        rw [if_pos h1, if_neg (by rw [← h2]; exact lt_irrefl _)] at h
        exact absurd h not_lt_bot

/-! ## The constants -/

/-- The score of a removed entry, minus one thousand million. -/
noncomputable def neg : EReal := Ideal.ofBits .f32 0xCE6E6B28#32
/-- Half of it: an entry above this is a detection. -/
noncomputable def negHalf : EReal := Ideal.ofBits .f32 0xCDEE6B28#32
/-- The score threshold. -/
noncomputable def thr : EReal := Ideal.ofBits .f32 0x3D4CCCCD#32
/-- The overlap threshold, one half. -/
noncomputable def half : EReal := Ideal.ofBits .f32 0x3F000000#32
/-- Minus one. -/
noncomputable def minusOne : EReal := Ideal.ofBits .f32 0xBF800000#32

/-- The pattern of minus infinity. -/
theorem ofBits_negInf : Ideal.ofBits .f32 0xFF800000#32 = ⊥ := by
  unfold Ideal.ofBits Ideal.ieee
  exact (if_pos (by decide)).trans ((if_pos (by decide)).trans (if_pos (by decide)))

/-- Overlap over union of two boxes given by their two corners. -/
noncomputable def iou (a b c d x y z w : EReal) : EReal :=
  Ideal.div (max (min c z - max a x) 0 * max (min d w - max b y) 0)
    ((c - a) * (d - b) + (z - x) * (w - y) - max (min c z - max a x) 0 * max (min d w - max b y) 0)

/-- The entry at a position after the box at the picked position, with score `m`, has been selected. -/
noncomputable def cut (m overlap s : EReal) (picked : Prop) [Decidable picked] : EReal :=
  if (negHalf < m ∧ half < overlap) ∨ picked then neg else s

theorem cut_cases (m overlap s : EReal) (picked : Prop) [Decidable picked] :
    cut m overlap s picked = neg ∨ cut m overlap s picked = s := by
  unfold cut; split
  · exact .inl rfl
  · exact .inr rfl

/-- A pattern with an ordinary exponent, by its three fields. -/
theorem ofBits_normal (b : BitVec 32) (n : Bool) (e f : ℕ) (hn : (b.extractLsb' 31 1 == 1#1) = n)
    (he : (b.extractLsb' 23 8).toNat = e) (hf : (b.extractLsb' 0 23).toNat = f) (h0 : e ≠ 0) (h1 : e ≠ 255) :
    Ideal.ofBits .f32 b
      = (((if n then -1 else 1) * (2 ^ 23 + f : ℕ) * (2 : ℝ) ^ ((e : ℤ) - (2 ^ (8 - 1) - 1) - (23 : ℕ)) : ℝ) : EReal) := by
  subst hn he hf
  unfold Ideal.ofBits Ideal.ieee
  exact (if_neg h1).trans (if_neg h0)

theorem neg_eq : neg = ((-1000000000 : ℝ) : EReal) := by
  unfold neg
  rw [ofBits_normal _ true 156 7236392 (by decide) (by decide) (by decide) (by decide) (by decide)]
  norm_num

theorem negHalf_eq : negHalf = ((-500000000 : ℝ) : EReal) := by
  unfold negHalf
  rw [ofBits_normal _ true 155 7236392 (by decide) (by decide) (by decide) (by decide) (by decide)]
  norm_num

theorem minusOne_eq : minusOne = ((-1 : ℝ) : EReal) := by
  unfold minusOne
  rw [ofBits_normal _ true 127 0 (by decide) (by decide) (by decide) (by decide) (by decide)]
  norm_num

theorem half_eq : half = ((1 / 2 : ℝ) : EReal) := by
  unfold half
  rw [ofBits_normal _ false 126 0 (by decide) (by decide) (by decide) (by decide) (by decide)]
  norm_num

theorem thr_eq : thr = ((13421773 / 268435456 : ℝ) : EReal) := by
  unfold thr
  rw [ofBits_normal _ false 122 5033165 (by decide) (by decide) (by decide) (by decide) (by decide)]
  norm_num

theorem neg_lt_negHalf : neg < negHalf := by
  rw [neg_eq, negHalf_eq, EReal.coe_lt_coe_iff]; norm_num

theorem negHalf_lt_thr : negHalf < thr := by
  rw [negHalf_eq, thr_eq, EReal.coe_lt_coe_iff]; norm_num

theorem minusOne_lt_thr : minusOne < thr := by
  rw [minusOne_eq, thr_eq, EReal.coe_lt_coe_iff]; norm_num

theorem half_pos : 0 < half := by
  rw [half_eq, ← EReal.coe_zero, EReal.coe_lt_coe_iff]; norm_num

end Cert.Proof.Math
-- ==== Proof.Math.TopK.lean ====
/-
  The reference's two stable sorts, read one entry at a time.
-/
module

public import proofs.«01_k».proof.Proof.Gen.ReferenceIdeal.Step
public import proofs.«01_k».proof.Proof.Math.Order
public import Idealize.ShloMosaic.Lib.Pointwise

@[expose] public section

set_option maxHeartbeats 400000

namespace Cert.Proof.Math

open Idealize.ShloMosaic
open Cert.ReferenceIdeal Cert.ReferenceIdeal.Gen

theorem along3 (b : Fin 2) (c : Fin 20) (i k : Fin 5000) :
    Shape.Idx.along (s := S2x20x5000) (ix3 b c i) (2 : Fin 3) k = ix3 b c k := by
  funext a
  fin_cases a <;> rfl

theorem along2 (b : Fin 2) (i k : Fin 6000) :
    Shape.Idx.along (s := S2x6000) (ix2 b i) (1 : Fin 2) k = ix2 b k := by
  funext a
  fin_cases a <;> rfl

theorem ord_along3 (x : FVec Ideal S2x20x5000 .f32) (b : Fin 2) (c : Fin 20) (j : S2x20x5000.Idx)
    (hj : j = ix3 b c 0) :
    sortedFrom (fun k k' => (FloatOps.cmpfTotal .gt : Ideal .f32 → Ideal .f32 → BitVec 1)
      (x (Shape.Idx.along (s := S2x20x5000) j (2 : Fin 3) k)) (x (Shape.Idx.along (s := S2x20x5000) j (2 : Fin 3) k'))
        == 1#1) (j (2 : Fin 3)) = ord (fun i => x (ix3 b c i)) 0 := by
  subst hj
  have hf : (fun k : Fin 5000 => x (Shape.Idx.along (s := S2x20x5000) (ix3 b c (0 : Fin 5000)) (2 : Fin 3) k))
      = fun k => x (ix3 b c k) := funext fun k => congrArg x (along3 b c 0 k)
  exact congrArg (fun f : Fin 5000 → EReal => ord f 0) hf

theorem ord_along2 (x : FVec Ideal S2x6000 .f32) (b : Fin 2) (k : Fin 6000) (j : S2x6000.Idx)
    (hj : j = ix2 b k) :
    sortedFrom (fun k k' => (FloatOps.cmpfTotal .gt : Ideal .f32 → Ideal .f32 → BitVec 1)
      (x (Shape.Idx.along (s := S2x6000) j (1 : Fin 2) k)) (x (Shape.Idx.along (s := S2x6000) j (1 : Fin 2) k'))
        == 1#1) (j (1 : Fin 2)) = ord (fun i => x (ix2 b i)) k := by
  subst hj
  have hf : (fun i : Fin 6000 => x (Shape.Idx.along (s := S2x6000) (ix2 b k) (1 : Fin 2) i))
      = fun i => x (ix2 b i) := funext fun i => congrArg x (along2 b k i)
  exact congrArg (fun f : Fin 6000 → EReal => ord f k) hf

/-- The place of the first result entry of a class. -/
def at3 (b : Fin 2) (c : Fin 20) : S2x20x5000.Idx := fun a => ⟨0 + (ix3 b c (0 : Fin 1) a).val, by
  rw [Nat.zero_add]; fin_cases a <;> simp [ix3, S2x20x5000] <;> omega⟩

theorem at3_eq (b : Fin 2) (c : Fin 20) : at3 b c = ix3 b c 0 := by
  funext a
  fin_cases a <;> exact Fin.ext (Nat.zero_add _)

theorem topK3_val (x : FVec Ideal S2x20x5000 .f32) (b : Fin 2) (c : Fin 20) :
    (Host.topK S2x20x1 2 (FloatOps.cmpfTotal .gt) x sliceFits_S2x20x5000_S2x20x1).1 (ix3 b c 0)
      = x (ix3 b c (ord (fun i => x (ix3 b c i)) 0)) := by
  have h : x (Shape.Idx.along (s := S2x20x5000) (at3 b c) (2 : Fin 3) (sortedFrom (fun k k' =>
      (FloatOps.cmpfTotal .gt : Ideal .f32 → Ideal .f32 → BitVec 1)
        (x (Shape.Idx.along (s := S2x20x5000) (at3 b c) (2 : Fin 3) k))
        (x (Shape.Idx.along (s := S2x20x5000) (at3 b c) (2 : Fin 3) k')) == 1#1) (at3 b c (2 : Fin 3))))
      = x (ix3 b c (ord (fun i => x (ix3 b c i)) 0)) := by
    rw [ord_along3 x b c _ (at3_eq b c), at3_eq]
    exact congrArg x (along3 _ _ _ _)
  exact h

/-- The last coordinate of a place, as a word. -/
def place3 : IVec S2x20x5000 32 := fun i => if hd : 2 < S2x20x5000.rank then iotaInDim S2x20x5000 32 ⟨2, hd⟩ i else 0#32

theorem topK3_idx (x : FVec Ideal S2x20x5000 .f32) (b : Fin 2) (c : Fin 20) :
    (Host.topK S2x20x1 2 (FloatOps.cmpfTotal .gt) x sliceFits_S2x20x5000_S2x20x1).2 (ix3 b c 0)
      = BitVec.ofNat 32 (ord (fun i => x (ix3 b c i)) 0) := by
  have h : place3 (Shape.Idx.along (s := S2x20x5000) (at3 b c) (2 : Fin 3) (sortedFrom (fun k k' =>
      (FloatOps.cmpfTotal .gt : Ideal .f32 → Ideal .f32 → BitVec 1)
        (x (Shape.Idx.along (s := S2x20x5000) (at3 b c) (2 : Fin 3) k))
        (x (Shape.Idx.along (s := S2x20x5000) (at3 b c) (2 : Fin 3) k')) == 1#1) (at3 b c (2 : Fin 3))))
      = place3 (ix3 b c (ord (fun i => x (ix3 b c i)) 0)) := by
    rw [ord_along3 x b c _ (at3_eq b c), at3_eq]
    exact congrArg place3 (along3 _ _ _ _)
  exact (show _ = _ from h).trans (by simp [place3, iotaInDim, ix3, S2x20x5000])

/-- A row's place among the sorted entries. -/
def top (k : Fin 300) : Fin 6000 := ⟨k.val, by omega⟩

/-- The place of a result entry of an image. -/
def at2 (b : Fin 2) (k : Fin 300) : S2x6000.Idx := fun a => ⟨0 + (ix2 b k a).val, by
  rw [Nat.zero_add]; fin_cases a <;> simp [ix2, S2x6000] <;> omega⟩

theorem at2_eq (b : Fin 2) (k : Fin 300) : at2 b k = ix2 b (top k) := by
  funext a
  fin_cases a <;> exact Fin.ext (Nat.zero_add _)

theorem topK2_val (x : FVec Ideal S2x6000 .f32) (b : Fin 2) (k : Fin 300) :
    (Host.topK S2x300 1 (FloatOps.cmpfTotal .gt) x sliceFits_S2x6000_S2x300).1 (ix2 b k)
      = x (ix2 b (ord (fun i => x (ix2 b i)) (top k))) := by
  have h : x (Shape.Idx.along (s := S2x6000) (at2 b k) (1 : Fin 2) (sortedFrom (fun i i' =>
      (FloatOps.cmpfTotal .gt : Ideal .f32 → Ideal .f32 → BitVec 1)
        (x (Shape.Idx.along (s := S2x6000) (at2 b k) (1 : Fin 2) i))
        (x (Shape.Idx.along (s := S2x6000) (at2 b k) (1 : Fin 2) i')) == 1#1) (at2 b k (1 : Fin 2))))
      = x (ix2 b (ord (fun i => x (ix2 b i)) (top k))) := by
    rw [ord_along2 x b _ _ (at2_eq b k), at2_eq]
    exact congrArg x (along2 _ _ _)
  exact h

/-- The last coordinate of a place, as a word. -/
def place2 : IVec S2x6000 32 := fun i => if hd : 1 < S2x6000.rank then iotaInDim S2x6000 32 ⟨1, hd⟩ i else 0#32

theorem topK2_idx (x : FVec Ideal S2x6000 .f32) (b : Fin 2) (k : Fin 300) :
    (Host.topK S2x300 1 (FloatOps.cmpfTotal .gt) x sliceFits_S2x6000_S2x300).2 (ix2 b k)
      = BitVec.ofNat 32 (ord (fun i => x (ix2 b i)) (top k)) := by
  have h : place2 (Shape.Idx.along (s := S2x6000) (at2 b k) (1 : Fin 2) (sortedFrom (fun i i' =>
      (FloatOps.cmpfTotal .gt : Ideal .f32 → Ideal .f32 → BitVec 1)
        (x (Shape.Idx.along (s := S2x6000) (at2 b k) (1 : Fin 2) i))
        (x (Shape.Idx.along (s := S2x6000) (at2 b k) (1 : Fin 2) i')) == 1#1) (at2 b k (1 : Fin 2))))
      = place2 (ix2 b (ord (fun i => x (ix2 b i)) (top k))) := by
    rw [ord_along2 x b _ _ (at2_eq b k), at2_eq]
    exact congrArg place2 (along2 _ _ _)
  exact (show _ = _ from h).trans (by simp [place2, iotaInDim, ix2, S2x6000])

end Cert.Proof.Math
-- ==== Proof.Math.Pick.lean ====
/-
  One step of a class's suppression as the kernel computes it, read one entry at a time.
-/
module

public import proofs.«01_k».proof.Proof.KI.Body
public import proofs.«01_k».proof.Proof.Math.Order
public import Idealize.ShloMosaic.Lib.Pointwise

@[expose] public section

set_option maxHeartbeats 400000

namespace Cert.Proof.Math

open Idealize.ShloMosaic
open Cert.KernelIdeal Cert.KernelIdeal.Gen Cert.Proof.KernelIdeal

/-! ## Least positions -/

theorem minsi_ofNat_of_le {a b : ℕ} (h : a ≤ b) (hb : b < 2 ^ 31) :
    IntOp.minsi (BitVec.ofNat 32 a) (BitVec.ofNat 32 b) = BitVec.ofNat 32 a := by
  have ha : (BitVec.ofNat 32 a).toInt = a := by
    rw [BitVec.toInt_eq_toNat_of_lt (by rw [BitVec.toNat_ofNat]; omega), BitVec.toNat_ofNat,
      Nat.mod_eq_of_lt (by omega)]
  have hb' : (BitVec.ofNat 32 b).toInt = b := by
    rw [BitVec.toInt_eq_toNat_of_lt (by rw [BitVec.toNat_ofNat]; omega), BitVec.toNat_ofNat,
      Nat.mod_eq_of_lt (by omega)]
  rcases h.lt_or_eq with h' | rfl
  · simp [IntOp.minsi, BitVec.slt, ha, hb']
    omega
  · simp [IntOp.minsi]

theorem cmpi_eq_ofNat {a b : ℕ} (ha : a < 2 ^ 32) (hb : b < 2 ^ 32) :
    IntOp.cmpi .eq (BitVec.ofNat 32 a) (BitVec.ofNat 32 b) = BitVec.ofBool (decide (a = b)) := by
  have : (BitVec.ofNat 32 a = BitVec.ofNat 32 b) ↔ a = b := by
    rw [← BitVec.toNat_inj, BitVec.toNat_ofNat, BitVec.toNat_ofNat, Nat.mod_eq_of_lt ha, Nat.mod_eq_of_lt hb]
  unfold IntOp.cmpi
  by_cases h : a = b
  · simp [h]
  · have hb : (BitVec.ofNat 32 a == BitVec.ofNat 32 b) = false := beq_false_of_ne (this.not.2 h)
    simp [h, hb]

theorem ofBool_and (a b : Bool) : BitVec.ofBool a &&& BitVec.ofBool b = BitVec.ofBool (a && b) := by
  cases a <;> cases b <;> decide

theorem ofBool_or (a b : Bool) : BitVec.ofBool a ||| BitVec.ofBool b = BitVec.ofBool (a || b) := by
  cases a <;> cases b <;> decide

theorem select_ofBool {α : Type} (p : Prop) [Decidable p] (a b : α) :
    Scalar.select (BitVec.ofBool (decide p)) a b = if p then a else b := by
  by_cases h : p <;> simp [Scalar.select, h]

theorem iv_eq (k : ℕ) : Scf.iv 0#32 1#32 k = BitVec.ofNat 32 k := by
  simp [Scf.iv]

theorem lane_eq {α : Type} (t k : ℕ) (ht : t < 2 ^ 32) (hk : k < 2 ^ 32) (a b : α) :
    Scalar.select (IntOp.cmpi .eq (BitVec.ofNat 32 t) (Scf.iv 0#32 1#32 k)) a b = if t = k then a else b := by
  rw [iv_eq, cmpi_eq_ofNat ht hk, select_ofBool]

variable (s : Vec Ideal S40x5120 .f32) (r : Fin 40) (J : Fin 5120)

theorem rowMax (hJ : IsFirst (fun i => s (ix2 r i)) J) : k0_pay2 s (ix2 r 0) = s (ix2 r J) := by
  pointwise [k0_pay2]
  exact fold_attained max _ _ _ _ (by rw [ofBits_negInf]; exact max_eq_left bot_le) (fun i _ => max_eq_left (hJ.1 i)) J (Finset.mem_univ _) rfl

theorem oneHot (hJ : IsFirst (fun i => s (ix2 r i)) J) (i : Fin 5120) :
    k0_pay3 lane5120 s (ix2 r i) = BitVec.ofBool (decide (i = J)) := by
  pointwise [k0_pay3, lane5120]
  rw [rowMax s r J hJ, fold_attained IntOp.minsi (BitVec.ofNat 32 J) _ _ _
      (minsi_ofNat_of_le (b := 2147483647) (by omega) (by omega)) ?_ J (Finset.mem_univ _) (if_pos rfl),
    cmpi_eq_ofNat (by omega) (by omega)]
  · simp only [Fin.ext_iff]
  · intro j _
    split
    · rename_i h
      have : ¬ j < J := fun hj => absurd h (hJ.2 j hj).ne
      exact minsi_ofNat_of_le (by simpa using this) (by omega)
    · exact minsi_ofNat_of_le (b := 5120) (by omega) (by omega)

theorem pick (v : Vec Ideal S40x5120 .f32) (hJ : IsFirst (fun i => s (ix2 r i)) J) :
    ∑ x, Scalar.select (k0_pay3 lane5120 s (ix2 r x)) (v (ix2 r x)) 0 = v (ix2 r J) := by
  rw [Finset.sum_eq_single J]
  · rw [oneHot s r J hJ]; simp [Scalar.select]
  · intro i _ hi
    rw [oneHot s r J hJ]; simp [Scalar.select, hi]
  · exact fun h => absurd (Finset.mem_univ _) h

theorem pick4 (v : Vec Ideal S40x5120 .f32) (hJ : IsFirst (fun i => s (ix2 r i)) J) :
    k0_pay4 lane5120 v s (ix2 r 0) = v (ix2 r J) := by
  pointwise [k0_pay4]; exact pick s r J v hJ
theorem pick5 (v : Vec Ideal S40x5120 .f32) (hJ : IsFirst (fun i => s (ix2 r i)) J) :
    k0_pay5 lane5120 v s (ix2 r 0) = v (ix2 r J) := by
  pointwise [k0_pay5]; exact pick s r J v hJ
theorem pick6 (v : Vec Ideal S40x5120 .f32) (hJ : IsFirst (fun i => s (ix2 r i)) J) :
    k0_pay6 lane5120 v s (ix2 r 0) = v (ix2 r J) := by
  pointwise [k0_pay6]; exact pick s r J v hJ
theorem pick7 (v : Vec Ideal S40x5120 .f32) (hJ : IsFirst (fun i => s (ix2 r i)) J) :
    k0_pay7 lane5120 v s (ix2 r 0) = v (ix2 r J) := by
  pointwise [k0_pay7]; exact pick s r J v hJ

/-! ## One step -/

variable (x1 y1 x2 y2 area : Vec Ideal S40x5120 .f32) (k : ℕ) (st : L1 Ideal)

theorem step1_s (hJ : IsFirst (fun i => st.s (ix2 r i)) J) (i : Fin 5120)
    (harea : area (ix2 r i) = (x2 (ix2 r i) - x1 (ix2 r i)) * (y2 (ix2 r i) - y1 (ix2 r i))) :
    (step1 lane5120 lane304 x1 y1 x2 y2 area k st).s (ix2 r i)
      = cut (st.s (ix2 r J)) (iou (x1 (ix2 r J)) (y1 (ix2 r J)) (x2 (ix2 r J)) (y2 (ix2 r J)) (x1 (ix2 r i))
          (y1 (ix2 r i)) (x2 (ix2 r i)) (y2 (ix2 r i))) (st.s (ix2 r i)) (i = J) := by
  pointwise [step1, k0_pay11, k0_pay8, k0_pay9, k0_pay10]
  rw [pick4 _ r J _ hJ, pick5 _ r J _ hJ, pick6 _ r J _ hJ, pick7 _ r J _ hJ, rowMax _ r J hJ, oneHot _ r J hJ, harea]
  unfold cut iou neg negHalf half
  simp only [IntOp.ori, IntOp.andi, ofBool_and, ofBool_or, ← Bool.decide_and, ← Bool.decide_or,
    select_ofBool]

variable (hk : k < 300)
include hk

theorem step1_ss (hJ : IsFirst (fun i => st.s (ix2 r i)) J) (t : Fin 304) :
    (step1 lane5120 lane304 x1 y1 x2 y2 area k st).ss (ix2 r t) = if t.val = k then st.s (ix2 r J) else st.ss (ix2 r t) := by
  pointwise [step1, k0_pay12, k0_pay13, lane304]
  rw [rowMax _ r J hJ, lane_eq _ _ (by omega) (by omega)]

theorem step1_x1 (hJ : IsFirst (fun i => st.s (ix2 r i)) J) (t : Fin 304) :
    (step1 lane5120 lane304 x1 y1 x2 y2 area k st).x1 (ix2 r t) = if t.val = k then x1 (ix2 r J) else st.x1 (ix2 r t) := by
  pointwise [step1, k0_pay12, k0_pay14, lane304]
  rw [pick4 _ r J _ hJ, lane_eq _ _ (by omega) (by omega)]

theorem step1_y1 (hJ : IsFirst (fun i => st.s (ix2 r i)) J) (t : Fin 304) :
    (step1 lane5120 lane304 x1 y1 x2 y2 area k st).y1 (ix2 r t) = if t.val = k then y1 (ix2 r J) else st.y1 (ix2 r t) := by
  pointwise [step1, k0_pay12, k0_pay15, lane304]
  rw [pick5 _ r J _ hJ, lane_eq _ _ (by omega) (by omega)]

theorem step1_x2 (hJ : IsFirst (fun i => st.s (ix2 r i)) J) (t : Fin 304) :
    (step1 lane5120 lane304 x1 y1 x2 y2 area k st).x2 (ix2 r t) = if t.val = k then x2 (ix2 r J) else st.x2 (ix2 r t) := by
  pointwise [step1, k0_pay12, k0_pay60, lane304]
  rw [pick6 _ r J _ hJ, lane_eq _ _ (by omega) (by omega)]

theorem step1_y2 (hJ : IsFirst (fun i => st.s (ix2 r i)) J) (t : Fin 304) :
    (step1 lane5120 lane304 x1 y1 x2 y2 area k st).y2 (ix2 r t) = if t.val = k then y2 (ix2 r J) else st.y2 (ix2 r t) := by
  pointwise [step1, k0_pay12, k0_pay61, lane304]
  rw [pick7 _ r J _ hJ, lane_eq _ _ (by omega) (by omega)]

end Cert.Proof.Math
-- ==== Proof.Math.RefPick.lean ====
/-
  One step of a class's suppression as the reference computes it, read one entry at a time.
-/
module

public import proofs.«01_k».proof.Proof.Math.TopK
public import proofs.«01_k».proof.Proof.Math.Pick

@[expose] public section

set_option maxHeartbeats 400000

namespace Cert.Proof.Math

open Idealize.ShloMosaic
open Cert.ReferenceIdeal Cert.ReferenceIdeal.Gen Cert.ReferenceIdeal.Step

/-- The start on a gathered axis, at the start index read for it. -/
theorem start_eq {s si t : Shape} (d : GatherDims s si t) (j : t.Idx) (idx : IVec si 32) (a : Fin s.rank)
    (ha : a ∈ d.startIndexMap) (i : si.Idx) (hi : d.siIdx j ⟨d.startIndexMap.idxOf a, List.idxOf_lt_length_iff.2 ha⟩ = i)
    (n : ℕ) (hn : idx i = BitVec.ofNat 32 n) (hs : n ≤ s.size a - d.sliceSizes a) (hlt : n < 2 ^ 31) :
    d.start j idx a = n := by
  unfold GatherDims.start
  rw [dif_pos ha, hi, hn, BitVec.toInt_eq_toNat_of_lt (by rw [BitVec.toNat_ofNat]; omega), BitVec.toNat_ofNat,
    Nat.mod_eq_of_lt (by omega), Int.toNat_natCast]
  exact min_eq_left hs

variable (j : ℕ) (s : State Ideal) (b : Fin 2) (c : Fin 20)

/-- The first best-scored box of a class. -/
noncomputable def best : Fin 5000 := ord (fun i => s.main_v21_7 (ix3 b c i)) 0

theorem read_b2 : b2 j s (ix2 b c) = s.main_v21_7 (ix3 b c (best s b c)) := by
  pointwise [b2]
  exact topK3_val _ b c

theorem read_b3 : b3 j s (ix2 b c) = BitVec.ofNat 32 (best s b c) := by
  pointwise [b3]
  exact topK3_idx _ b c

theorem read_b12_0 : b12 j s (ix3 b c 0) = BitVec.ofNat 32 b := by
  refine (concatenate_pair_apply_left (t := S2x20x2) (2 : Fin 3) (b10 j s) (b11 j s) _ _ rfl (ix3 b c 0) ?_).trans ?_
  · intro a; fin_cases a <;> rfl
  · pointwise [b10, b9, b8, b7]

theorem read_b12_1 : b12 j s (ix3 b c 1) = BitVec.ofNat 32 (best s b c) := by
  refine (concatenate_pair_apply_right (t := S2x20x2) (2 : Fin 3) (b10 j s) (b11 j s) _ _ rfl rfl (ix3 b c 0) ?_ ?_).trans ?_
  · intro a; fin_cases a <;> first | (intro _; rfl) | (intro h; exact absurd rfl h)
  · rfl
  · pointwise [b11]
    exact read_b3 j s b c

theorem read_b13 (q : Fin 4) : b13 j s (ix3 b c q) = s.main_v21_0 (ix3 b (best s b c) q) := by
  unfold b13 Host.gather
  congr 1
  funext a
  refine Fin.ext ?_
  unfold GatherDims.operandIdx
  fin_cases a
  · have h := start_eq gather_S2x5000x4_S2x20x2_S2x20x4_2_01_n_n_01_2_114 (ix3 b c q) (b12 j s) (0 : Fin 3) (by decide)
      (ix3 b c 0) (by funext b; fin_cases b <;> rfl) b.val (read_b12_0 j s b c)
      (by have := b.isLt; show b.val ≤ 2 - 1; omega) (by omega)
    exact h
  · have h := start_eq gather_S2x5000x4_S2x20x2_S2x20x4_2_01_n_n_01_2_114 (ix3 b c q) (b12 j s) (1 : Fin 3) (by decide)
      (ix3 b c 1) (by funext b; fin_cases b <;> rfl) (best s b c).val (read_b12_1 j s b c)
      (by have := (best s b c).isLt; show (best s b c).val ≤ 5000 - 1; omega) (by omega)
    have h2 : gather_S2x5000x4_S2x20x2_S2x20x4_2_01_n_n_01_2_114.batchCoord (ix3 b c q) (1 : Fin 3) = 0 := by
      unfold GatherDims.batchCoord; exact dif_neg (by decide)
    have h3 : gather_S2x5000x4_S2x20x2_S2x20x4_2_01_n_n_01_2_114.offCoord (ix3 b c q) (1 : Fin 3) = 0 := by
      unfold GatherDims.offCoord; exact dif_neg (by decide)
    have h : gather_S2x5000x4_S2x20x2_S2x20x4_2_01_n_n_01_2_114.start (ix3 b c q) (b12 j s) (1 : Fin 3)
        + gather_S2x5000x4_S2x20x2_S2x20x4_2_01_n_n_01_2_114.batchCoord (ix3 b c q) (1 : Fin 3)
        + gather_S2x5000x4_S2x20x2_S2x20x4_2_01_n_n_01_2_114.offCoord (ix3 b c q) (1 : Fin 3) = (best s b c).val := by
      rw [h, h2, h3]; omega
    exact h
  · have h1 : gather_S2x5000x4_S2x20x2_S2x20x4_2_01_n_n_01_2_114.start (ix3 b c q) (b12 j s) (2 : Fin 3) = 0 := by
      unfold GatherDims.start; exact dif_neg (by decide)
    have h2 : gather_S2x5000x4_S2x20x2_S2x20x4_2_01_n_n_01_2_114.batchCoord (ix3 b c q) (2 : Fin 3) = 0 := by
      unfold GatherDims.batchCoord; exact dif_neg (by decide)
    have h3 : gather_S2x5000x4_S2x20x2_S2x20x4_2_01_n_n_01_2_114.offCoord (ix3 b c q) (2 : Fin 3) = q.val := by
      unfold GatherDims.offCoord; exact dif_pos (by decide)
    have h : gather_S2x5000x4_S2x20x2_S2x20x4_2_01_n_n_01_2_114.start (ix3 b c q) (b12 j s) (2 : Fin 3)
        + gather_S2x5000x4_S2x20x2_S2x20x4_2_01_n_n_01_2_114.batchCoord (ix3 b c q) (2 : Fin 3)
        + gather_S2x5000x4_S2x20x2_S2x20x4_2_01_n_n_01_2_114.offCoord (ix3 b c q) (2 : Fin 3) = q.val := by
      rw [h1, h2, h3]; omega
    exact h

/-! ## Writing the step's row -/

theorem clamped_zero {s t : Shape} (ht : t.rank = s.rank) (start : Fin s.rank → Int) (a : Fin s.rank)
    (h : s.size a ≤ t.size (a.cast ht.symm)) : Host.clampedStart s t ht start a = 0 := by
  unfold Host.clampedStart; omega

theorem toInt_ofNat {n : ℕ} (h : n < 2 ^ 31) : (BitVec.ofNat 32 n).toInt = n := by
  rw [BitVec.toInt_eq_toNat_of_lt (by rw [BitVec.toNat_ofNat]; omega), BitVec.toNat_ofNat, Nat.mod_eq_of_lt (by omega)]

theorem read_b85 : b85 j s (ix2 b c)
    = if negHalf < s.main_v21_7 (ix3 b c (best s b c)) then s.main_v21_7 (ix3 b c (best s b c)) else neg := by
  pointwise [b85, b6, b5, b4, b84, b83, b82]
  rw [read_b2]
  rfl

theorem read_b89 (hj : j < 300) (t : Fin 300) : b89 j s (ix3 t b c)
    = if t.val = j then b85 j s (ix2 b c) else s.main_v21_8 (ix3 t b c) := by
  have hc : Host.clampedStart S300x2x20 S1x2x20 rfl (fun k => BitVec.toInt ((![constantI S_ 32 (BitVec.ofNat 32 j), b87 j s,
      b88 j s] : Fin 3 → (⟨S_, .i32⟩ : BufTy).Contents (Elt Ideal)) k (Shape.Idx.first h_S_))) (0 : Fin 3) = j := by
    unfold Host.clampedStart
    show (min (max (BitVec.ofNat 32 j).toInt 0) ((300 - 1 : ℕ) : ℤ)).toNat = j
    rw [toInt_ofNat (by omega)]
    omega
  pointwise [b89, b86]
  simp only [clamped_zero (s := S300x2x20) (t := S1x2x20) rfl _ (1 : Fin 3) (le_refl 2),
    clamped_zero (s := S300x2x20) (t := S1x2x20) rfl _ (2 : Fin 3) (le_refl 20)]
  simp only [hc]
  by_cases h : t.val = j
  · rw [dif_pos ⟨⟨h.ge, by omega⟩, Nat.zero_le _, Nat.zero_le _⟩, if_pos h]
    rfl
  · rw [dif_neg (fun h' => h (by omega)), if_neg h]

theorem read_b94 (hj : j < 300) (t : Fin 300) (q : Fin 4) : b94 j s (ix4 t b c q)
    = if t.val = j then b13 j s (ix3 b c q) else s.main_v21_9 (ix4 t b c q) := by
  have hc : Host.clampedStart S300x2x20x4 S1x2x20x4 rfl (fun k => BitVec.toInt ((![constantI S_ 32 (BitVec.ofNat 32 j),
      b91 j s, b92 j s, b93 j s] : Fin 4 → (⟨S_, .i32⟩ : BufTy).Contents (Elt Ideal)) k (Shape.Idx.first h_S_)))
      (0 : Fin 4) = j := by
    unfold Host.clampedStart
    show (min (max (BitVec.ofNat 32 j).toInt 0) ((300 - 1 : ℕ) : ℤ)).toNat = j
    rw [toInt_ofNat (by omega)]
    omega
  pointwise [b94, b90]
  simp only [clamped_zero (s := S300x2x20x4) (t := S1x2x20x4) rfl _ (1 : Fin 4) (le_refl 2),
    clamped_zero (s := S300x2x20x4) (t := S1x2x20x4) rfl _ (2 : Fin 4) (le_refl 20),
    clamped_zero (s := S300x2x20x4) (t := S1x2x20x4) rfl _ (3 : Fin 4) (le_refl 4)]
  simp only [hc]
  by_cases h : t.val = j
  · rw [dif_pos ⟨⟨h.ge, by omega⟩, Nat.zero_le _, Nat.zero_le _, Nat.zero_le _⟩, if_pos h]
    rfl
  · rw [dif_neg (fun h' => h (by omega)), if_neg h]

/-- The boxes' areas are those of their corners. -/
def AreaOk : Prop := ∀ i : Fin 5000, s.main_v21_5 (ix3 b 0 i)
  = (s.main_v21_3 (ix3 b 0 i) - s.main_v21_1 (ix3 b 0 i)) * (s.main_v21_4 (ix3 b 0 i) - s.main_v21_2 (ix3 b 0 i))

theorem read_b81 (ha : AreaOk s b) (i : Fin 5000) : b81 j s (ix3 b c i)
    = cut (s.main_v21_7 (ix3 b c (best s b c)))
        (iou (s.main_v21_0 (ix3 b (best s b c) 0)) (s.main_v21_0 (ix3 b (best s b c) 1))
          (s.main_v21_0 (ix3 b (best s b c) 2)) (s.main_v21_0 (ix3 b (best s b c) 3))
          (s.main_v21_1 (ix3 b 0 i)) (s.main_v21_2 (ix3 b 0 i)) (s.main_v21_3 (ix3 b 0 i)) (s.main_v21_4 (ix3 b 0 i)))
        (s.main_v21_7 (ix3 b c i)) (i = best s b c) := by
  pointwise [b81, b80, b79, b78, b77, b75, b74, b72, b76, b73, b71, b70, b69, b68, b67, b66, b65, b6, b5, b4, b64, b63,
    b62, b61, b60, b59, b58, b56, b55, b54, b57, b53, b52, b51, b50, b49, b48, b47, b46, b45, b44, b43, b42, b37, b36,
    b35, b31, b30, b29, b41, b40, b39, b38, b34, b33, b32, b28, b27, b26, b25, b24, b23, b22, b21, b20, b19, b18, b17,
    b16, b15, b14]
  rw [read_b2, read_b3, read_b13, read_b13, read_b13, read_b13, ha i, cmpi_eq_ofNat (by omega) (by omega)]
  have ht := overlap_test (s.main_v21_0 (ix3 b (best s b c) 0)) (s.main_v21_0 (ix3 b (best s b c) 1))
    (s.main_v21_0 (ix3 b (best s b c) 2)) (s.main_v21_0 (ix3 b (best s b c) 3)) (s.main_v21_1 (ix3 b 0 i))
    (s.main_v21_2 (ix3 b 0 i)) (s.main_v21_3 (ix3 b 0 i)) (s.main_v21_4 (ix3 b 0 i)) half half_pos
  simp only [half] at ht
  simp only [IntOp.andi, ofBool_and, ← Bool.decide_and, select_ofBool, ← ht]
  unfold cut iou neg negHalf half
  by_cases h : i = best s b c
  · rw [if_pos (congrArg Fin.val h), if_pos (.inr h)]
  · rw [if_neg (fun h' => h (Fin.ext h'))]
    simp only [h, _root_.or_false]

end Cert.Proof.Math
-- ==== Proof.Math.Extract.lean ====
/-
  One trip of the kernel's second loop, read one entry at a time.
-/
module

public import proofs.«01_k».proof.Proof.Math.Pick

@[expose] public section

set_option maxHeartbeats 400000

namespace Cert.Proof.Math

open Idealize.ShloMosaic
open Cert.KernelIdeal Cert.KernelIdeal.Gen Cert.Proof.KernelIdeal

/-- The table of selected scores. -/
abbrev Table := Vec Ideal S40x304 .f32

/-- An entry's number in the table, row after row. -/
def pos (r : Fin 40) (t : Fin 304) : ℕ := r.val * 304 + t.val

theorem pos_inj {r r' : Fin 40} {t t' : Fin 304} (h : pos r t = pos r' t') : r = r' ∧ t = t' := by
  unfold pos at h
  exact ⟨Fin.ext (by omega), Fin.ext (by omega)⟩

/-- The entry is the first of the greatest ones. -/
structure IsTop (S : Table) (r : Fin 40) (t : Fin 304) : Prop where
  le : ∀ r' t', S (ix2 r' t') ≤ S (ix2 r t)
  first : ∀ r' t', S (ix2 r' t') = S (ix2 r t) → pos r t ≤ pos r' t'

theorem exists_top (S : Table) : ∃ r t, IsTop S r t := by
  obtain ⟨p, hp⟩ := Finite.exists_max fun p : Fin 40 × Fin 304 => S (ix2 p.1 p.2)
  obtain ⟨q, hq, hm⟩ := Set.exists_min_image {q : Fin 40 × Fin 304 | S (ix2 q.1 q.2) = S (ix2 p.1 p.2)}
    (fun q => pos q.1 q.2) (Set.toFinite _) ⟨p, rfl⟩
  exact ⟨q.1, q.2, fun r' t' => (hp (r', t')).trans_eq hq.symm, fun r' t' h => hm (r', t') (h.trans hq)⟩

/-- The positions the loop counts with. -/
noncomputable abbrev places : IVec S40x304 32 := k0_pay62 lane304

theorem places_eq (r : Fin 40) (t : Fin 304) : places (ix2 r t) = BitVec.ofNat 32 (pos r t) := by
  pointwise [places, k0_pay62, lane304]
  show BitVec.ofNat 32 r.val * BitVec.ofNat 32 304 + BitVec.ofNat 32 t.val = _
  rw [← BitVec.ofNat_mul, ← BitVec.ofNat_add]
  rfl

theorem pos_lt (r : Fin 40) (t : Fin 304) : pos r t < 12160 := by unfold pos; omega

/-! ## The second image's values are the first's, of the other mask -/

theorem mask_eq (v : IVec S40x304 1) (s : Table) : k0_pay30 v s = k0_pay16 v s := rfl
theorem max_eq (v : IVec S40x304 1) (s : Table) : k0_pay31 v s = k0_pay17 v s := rfl
theorem place_eq (v : IVec S40x304 1) (s : Table) : k0_pay32 places v s = k0_pay18 places v s := rfl
theorem hot_eq (v : IVec S40x304 1) (s : Table) : k0_pay33 places v s = k0_pay19 places v s := rfl
theorem score_eq (x : FVec Ideal S1x1 .f32) : k0_pay41 x = k0_pay23 x := rfl

/-! ## The greatest entry and its position -/

section Reads
variable (v : IVec S40x304 1) (s : Table) (r : Fin 40) (t : Fin 304)

theorem read17 (h : IsTop (k0_pay16 v s) r t) : k0_pay17 v s (ix2 0 0) = k0_pay16 v s (ix2 r t) := by
  pointwise [k0_pay17]
  have hb : ∀ a : EReal, max a (Ideal.ofBits .f32 0xFF800000#32) = a := fun a => by
    rw [ofBits_negInf]; exact max_eq_left bot_le
  refine fold_attained max _ _ _ _ (hb _) (fun r' _ => ?_) r (Finset.mem_univ _) ?_
  · exact fold_absorb max _ _ _ _ (hb _) fun t' _ => max_eq_left (h.le r' t')
  · exact fold_attained max _ _ _ _ (hb _) (fun t' _ => max_eq_left (h.le r t')) t (Finset.mem_univ _) rfl

theorem read18 (h : IsTop (k0_pay16 v s) r t) : k0_pay18 places v s (ix2 0 0) = BitVec.ofNat 32 (pos r t) := by
  pointwise [k0_pay18]
  rw [read17 v s r t h]
  have hp := pos_lt r t
  have h0 : IntOp.minsi (BitVec.ofNat 32 (pos r t)) (BitVec.ofNat 32 2147483647) = BitVec.ofNat 32 (pos r t) :=
    minsi_ofNat_of_le (by omega) (by omega)
  have hc : ∀ r' t', IntOp.minsi (BitVec.ofNat 32 (pos r t)) (if k0_pay16 v s (ix2 r' t') = k0_pay16 v s (ix2 r t)
      then places (ix2 r' t') else 12160#32) = BitVec.ofNat 32 (pos r t) := fun r' t' => by
    have hp' := pos_lt r' t'
    split
    · rename_i he
      rw [places_eq]
      exact minsi_ofNat_of_le (h.first r' t' he) (by omega)
    · exact minsi_ofNat_of_le (b := 12160) (by omega) (by omega)
  refine fold_attained IntOp.minsi _ _ _ _ h0 (fun r' _ => ?_) r (Finset.mem_univ _) ?_
  · exact fold_absorb IntOp.minsi _ _ _ _ h0 fun t' _ => hc r' t'
  · exact fold_attained IntOp.minsi _ _ _ _ h0 (fun t' _ => hc r t') t (Finset.mem_univ _) ((if_pos rfl).trans (places_eq r t))

theorem read19 (h : IsTop (k0_pay16 v s) r t) (r' : Fin 40) (t' : Fin 304) :
    k0_pay19 places v s (ix2 r' t') = BitVec.ofBool (decide (r' = r ∧ t' = t)) := by
  pointwise [k0_pay19]
  have hp := pos_lt r t
  have hp' := pos_lt r' t'
  rw [read18 v s r t h, places_eq, cmpi_eq_ofNat (by omega) (by omega)]
  congr 1
  exact decide_eq_decide.2 ⟨pos_inj, fun h => by rw [h.1, h.2]⟩

/-! ## What a trip writes -/

theorem pick2 (h : IsTop (k0_pay16 v s) r t) (w : Table) :
    ∑ x, ∑ x', Scalar.select (k0_pay19 places v s (ix2 x x')) (w (ix2 x x')) 0 = w (ix2 r t) := by
  have hz : ∀ x x', ¬(x = r ∧ x' = t) → Scalar.select (k0_pay19 places v s (ix2 x x')) (w (ix2 x x')) 0 = 0 :=
    fun x x' hx => by rw [read19 v s r t h, select_ofBool, if_neg hx]
  rw [Finset.sum_eq_single r, Finset.sum_eq_single t]
  · rw [read19 v s r t h, select_ofBool, if_pos ⟨rfl, rfl⟩]
  · exact fun x' _ hx => hz _ _ fun h => hx h.2
  · exact fun h => absurd (Finset.mem_univ _) h
  · exact fun x _ hx => Finset.sum_eq_zero fun x' _ => hz _ _ fun h => hx h.1
  · exact fun h => absurd (Finset.mem_univ _) h

/-- The corner `q` of a box whose four corners lie in four tables. -/
noncomputable def corner (x1 y1 x2 y2 : Table) (q : Fin 4) : Table :=
  if q.val = 0 then x1 else if q.val = 1 then y1 else if q.val = 2 then x2 else y2

theorem readA (h : IsTop (k0_pay16 v s) r t) (x1 y1 x2 y2 : Table) (q : Fin 4) :
    boxA places lane4 v x1 y1 x2 y2 s (ix3 0 0 q)
      = if negHalf < k0_pay16 v s (ix2 r t) then corner x1 y1 x2 y2 q (ix2 r t) else minusOne := by
  pointwise [boxA, k0_pay29, k0_pay21, k0_pay22, k0_pay25, k0_pay26, k0_pay27, k0_pay28, lane4]
  rw [read17 v s r t h, pick2 v s r t h, pick2 v s r t h, pick2 v s r t h, pick2 v s r t h]
  unfold corner negHalf minusOne
  fin_cases q <;> rfl

theorem readB (h : IsTop (k0_pay16 v s) r t) (x1 y1 x2 y2 : Table) (q : Fin 4) :
    boxB places lane4 v x1 y1 x2 y2 s (ix3 0 0 q)
      = if negHalf < k0_pay16 v s (ix2 r t) then corner x1 y1 x2 y2 q (ix2 r t) else minusOne := by
  pointwise [boxB, k0_pay44, k0_pay36, k0_pay37, k0_pay38, k0_pay39, k0_pay40, k0_pay43, lane4]
  rw [hot_eq, max_eq, read17 v s r t h, pick2 v s r t h, pick2 v s r t h, pick2 v s r t h, pick2 v s r t h]
  unfold corner negHalf minusOne
  fin_cases q <;> rfl

theorem readScore (h : IsTop (k0_pay16 v s) r t) : k0_pay23 (k0_pay17 v s) (ix2 0 0)
    = if negHalf < k0_pay16 v s (ix2 r t) then k0_pay16 v s (ix2 r t) else minusOne := by
  pointwise [k0_pay23, k0_pay22]
  rw [read17 v s r t h]
  rfl

theorem scoreRow_0 (v' : IVec S40x304 1) : scoreRow lane8 v v' s (ix2 0 0) = k0_pay23 (k0_pay17 v s) (ix2 0 0) := by
  pointwise [scoreRow, k0_pay46, lane8]

theorem scoreRow_1 (v' : IVec S40x304 1) : scoreRow lane8 v v' s (ix2 0 1) = k0_pay23 (k0_pay17 v' s) (ix2 0 0) := by
  pointwise [scoreRow, k0_pay46, lane8]
  rw [max_eq, score_eq, show IntOp.cmpi .eq 1#32 0#32 = 0#1 from by decide]
  exact if_neg (by decide)

theorem divsi_ofNat (p : ℕ) (hp : p < 12160) : IntOp.divsi .vector (BitVec.ofNat 32 p) 304#32 = BitVec.ofNat 32 (p / 304) := by
  have hx : (BitVec.ofNat 32 p).toNat = p := by rw [BitVec.toNat_ofNat]; omega
  have hm : (BitVec.ofNat 32 p).msb = false := by rw [BitVec.msb_eq_false_iff_two_mul_lt, hx]; omega
  unfold IntOp.divsi
  rw [if_neg (IntOp.not_corner_of_pos (by decide)), BitVec.sdiv_eq, hm]
  apply BitVec.eq_of_toNat_eq
  show ((BitVec.ofNat 32 p).udiv 304#32).toNat = _
  rw [BitVec.toNat_ofNat, BitVec.udiv_eq, BitVec.toNat_udiv, hx]
  show p / 304 = _
  omega

/-- The quotient by the row length, rounded down as the kernel rounds it. -/
theorem floor_eq (p : ℕ) (hp : p < 12160) :
    Scalar.select (IntOp.andi (IntOp.cmpi .ne (IntOp.subi (BitVec.setWidth 32 (IntOp.cmpi .sgt (BitVec.ofNat 32 p) 0#32))
          (BitVec.setWidth 32 (IntOp.cmpi .slt (BitVec.ofNat 32 p) 0#32)))
        (Scalar.subi (Scalar.extui (Scalar.cmpi .sgt 304#32 0#32)) (Scalar.extui (Scalar.cmpi .slt 304#32 0#32))))
        (IntOp.cmpi .ne (IntOp.remsi .vector (BitVec.ofNat 32 p) 304#32) 0#32))
      (IntOp.subi (IntOp.divsi .vector (BitVec.ofNat 32 p) 304#32) 1#32) (IntOp.divsi .vector (BitVec.ofNat 32 p) 304#32)
      = BitVec.ofNat 32 (p / 304) := by
  rcases Nat.eq_zero_or_pos p with rfl | h0
  · decide
  · have hx : (BitVec.ofNat 32 p).toInt = p := by
      rw [BitVec.toInt_eq_toNat_of_lt (by rw [BitVec.toNat_ofNat]; omega), BitVec.toNat_ofNat, Nat.mod_eq_of_lt (by omega)]
    have h1 : IntOp.cmpi .sgt (BitVec.ofNat 32 p) 0#32 = 1#1 := by
      simp [IntOp.cmpi, BitVec.slt, hx, h0]
    have h2 : IntOp.cmpi .slt (BitVec.ofNat 32 p) 0#32 = 0#1 := by
      have : ¬ ((p : ℤ) < 0) := by omega
      simp [IntOp.cmpi, BitVec.slt, hx, this]
    rw [h1, h2, divsi_ofNat p hp]
    generalize IntOp.cmpi .ne (IntOp.remsi .vector (BitVec.ofNat 32 p) 304#32) 0#32 = z
    have hz : z = 0#1 ∨ z = 1#1 := by revert z; decide
    rcases hz with rfl | rfl <;> rfl

theorem readLabel0 (h : IsTop (k0_pay16 v s) r t) : k0_pay24 (k0_pay17 v s) (k0_pay20 places v s) (ix2 0 0)
    = if negHalf < k0_pay16 v s (ix2 r t) then BitVec.ofNat 32 r.val else 4294967295#32 := by
  have hp := pos_lt r t
  pointwise [k0_pay24, k0_pay22, k0_pay20]
  rw [read17 v s r t h, read18 v s r t h, floor_eq _ hp]
  have hd : pos r t / 304 = r.val := by unfold pos; omega
  rw [hd, show IntOp.subi (BitVec.ofNat 32 r.val) 0#32 = BitVec.ofNat 32 r.val from BitVec.sub_zero _]
  rfl

theorem readLabel1 (h : IsTop (k0_pay16 v s) r t) (hr : negHalf < k0_pay16 v s (ix2 r t) → 20 ≤ r.val) :
    k0_pay42 (k0_pay31 v s) (k0_pay32 places v s) 304#32 (k0_pay34 places v s) (k0_pay35 places v s) (ix2 0 0)
    = if negHalf < k0_pay16 v s (ix2 r t) then BitVec.ofNat 32 (r.val - 20) else 4294967295#32 := by
  have hp := pos_lt r t
  pointwise [k0_pay42, k0_pay34, k0_pay35, k0_pay40]
  rw [max_eq, place_eq, read17 v s r t h, read18 v s r t h, floor_eq _ hp]
  have hd : pos r t / 304 = r.val := by unfold pos; omega
  rw [hd]
  by_cases hc : negHalf < k0_pay16 v s (ix2 r t)
  · have hs : IntOp.subi (BitVec.ofNat 32 r.val) 20#32 = BitVec.ofNat 32 (r.val - 20) :=
      (BitVec.ofNat_sub_ofNat_of_le r.val 20 (by decide) (hr hc))
    rw [hs]
    rfl
  · rw [if_neg hc]
    exact if_neg hc

theorem labelRow_0 (v' : IVec S40x304 1) : labelRow (F := Ideal) places lane8 v v' s (ix2 0 0)
    = k0_pay24 (k0_pay17 v s) (k0_pay20 places v s) (ix2 0 0) := by
  pointwise [labelRow, k0_pay1, k0_pay47, k0_pay48, lane8]

theorem labelRow_1 (v' : IVec S40x304 1) : labelRow (F := Ideal) places lane8 v v' s (ix2 0 1)
    = k0_pay42 (k0_pay31 v' s) (k0_pay32 places v' s) 304#32 (k0_pay34 places v' s) (k0_pay35 places v' s) (ix2 0 0) := by
  pointwise [labelRow, k0_pay1, k0_pay47, k0_pay48, lane8]
  rw [show IntOp.cmpi .eq 1#32 0#32 = 0#1 from by decide]
  exact if_neg (by decide)

theorem readStep (v' : IVec S40x304 1) (r' : Fin 40) (t' : Fin 304) (h : IsTop (k0_pay16 v s) r t)
    (h' : IsTop (k0_pay16 v' s) r' t') (x : Fin 40) (y : Fin 304) :
    step2 (F := Ideal) places v v' s (ix2 x y) = if (x = r ∧ y = t) ∨ (x = r' ∧ y = t') then neg else s (ix2 x y) := by
  pointwise [step2, k0_pay45]
  rw [hot_eq, read19 v s r t h, read19 v' s r' t' h']
  simp only [IntOp.ori, ofBool_or, ← Bool.decide_or, select_ofBool]
  rfl

theorem below : ∀ r : Fin 40, IntOp.cmpi .slt (BitVec.ofNat 32 r.val) 20#32 = BitVec.ofBool (decide (r.val < 20)) := by
  decide

theorem above : ∀ r : Fin 40, IntOp.cmpi .sge (BitVec.ofNat 32 r.val) 20#32 = BitVec.ofBool (decide (20 ≤ r.val)) := by
  decide

theorem readMask0 : k0_pay16 k0_pay63 s (ix2 r t) = if r.val < 20 then s (ix2 r t) else neg := by
  pointwise [k0_pay16, k0_pay63]
  rw [below r, select_ofBool]
  rfl

theorem readMask1 : k0_pay16 k0_pay64 s (ix2 r t) = if 20 ≤ r.val then s (ix2 r t) else neg := by
  pointwise [k0_pay16, k0_pay64]
  rw [above r, select_ofBool]
  rfl

end Reads

end Cert.Proof.Math
-- ==== Proof.Math.Sim.lean ====
/-
  The kernel's first loop and the reference's loop keep the same scores and make the same selections.
-/
module

public import proofs.«01_k».proof.Proof.Math.RefPick

@[expose] public section

set_option maxHeartbeats 400000

namespace Cert.Proof.Math

open Idealize.ShloMosaic
open Cert.Proof.KernelIdeal
open Cert.ReferenceIdeal.Step (State)

/-- The boxes. -/
abbrev Boxes := Shape.Idx ⟨3, ![2, 5000, 4]⟩ → EReal
/-- The class scores. -/
abbrev Scores := Shape.Idx ⟨3, ![2, 5000, 20]⟩ → EReal
/-- A table of one row per image and class. -/
abbrev Rows := Shape.Idx ⟨2, ![40, 5120]⟩ → EReal

/-- The kernel's row of an image and a class. -/
def row (b : Fin 2) (c : Fin 20) : Fin 40 := ⟨b.val * 20 + c.val, by omega⟩
/-- A box's column. -/
def wide (i : Fin 5000) : Fin 5120 := ⟨i.val, by omega⟩
/-- A selection's lane. -/
def lane (t : Fin 300) : Fin 304 := ⟨t.val, by omega⟩

/-- What the kernel's five inputs are, of the arguments. -/
structure Inputs (a0 : Boxes) (a1 : Scores) (X0 X1 X2 X3 X4 : Rows) : Prop where
  sc : ∀ b c i, X0 (ix2 (row b c) (wide i)) = a1 (ix3 b i c)
  pad : ∀ b c (i : Fin 5120), 5000 ≤ i.val → X0 (ix2 (row b c) i) = minusOne
  x1 : ∀ b c i, X1 (ix2 (row b c) (wide i)) = a0 (ix3 b i 0)
  y1 : ∀ b c i, X2 (ix2 (row b c) (wide i)) = a0 (ix3 b i 1)
  x2 : ∀ b c i, X3 (ix2 (row b c) (wide i)) = a0 (ix3 b i 2)
  y2 : ∀ b c i, X4 (ix2 (row b c) (wide i)) = a0 (ix3 b i 3)

/-- What of the reference's state no trip changes. -/
structure Frozen (a0 : Boxes) (R : State Ideal) : Prop where
  box : R.main_v21_0 = a0
  x1 : ∀ b i, R.main_v21_1 (ix3 b 0 i) = a0 (ix3 b i 0)
  y1 : ∀ b i, R.main_v21_2 (ix3 b 0 i) = a0 (ix3 b i 1)
  x2 : ∀ b i, R.main_v21_3 (ix3 b 0 i) = a0 (ix3 b i 2)
  y2 : ∀ b i, R.main_v21_4 (ix3 b 0 i) = a0 (ix3 b i 3)
  area : ∀ b, AreaOk R b

/-- The two states before trip `n`. -/
structure Sim (a0 : Boxes) (a1 : Scores) (n : ℕ) (K : L1 Ideal) (R : State Ideal) : Prop where
  frozen : Frozen a0 R
  s : ∀ b c i, K.s (ix2 (row b c) (wide i)) = R.main_v21_7 (ix3 b c i)
  pad : ∀ b c (i : Fin 5120), 5000 ≤ i.val → K.s (ix2 (row b c) i) = neg
  orig : ∀ b c i, R.main_v21_7 (ix3 b c i) = neg ∨
    (R.main_v21_7 (ix3 b c i) = a1 (ix3 b i c) ∧ thr < a1 (ix3 b i c))
  ss : ∀ b c (t : Fin 300), t.val < n → K.ss (ix2 (row b c) (lane t)) = R.main_v21_8 (ix3 t b c)
  rest : ∀ b c (t : Fin 304), n ≤ t.val → K.ss (ix2 (row b c) t) = neg
  x1 : ∀ b c (t : Fin 300), t.val < n → K.x1 (ix2 (row b c) (lane t)) = R.main_v21_9 (ix4 t b c 0)
  y1 : ∀ b c (t : Fin 300), t.val < n → K.y1 (ix2 (row b c) (lane t)) = R.main_v21_9 (ix4 t b c 1)
  x2 : ∀ b c (t : Fin 300), t.val < n → K.x2 (ix2 (row b c) (lane t)) = R.main_v21_9 (ix4 t b c 2)
  y2 : ∀ b c (t : Fin 300), t.val < n → K.y2 (ix2 (row b c) (lane t)) = R.main_v21_9 (ix4 t b c 3)
  sel : ∀ b c (t : Fin 300), t.val < n → R.main_v21_8 (ix3 t b c) = neg ∨
    ∃ i, R.main_v21_8 (ix3 t b c) = a1 (ix3 b i c) ∧ thr < a1 (ix3 b i c)
  start : n = 0 → ∀ b c i, thr < a1 (ix3 b i c) → R.main_v21_7 (ix3 b c i) = a1 (ix3 b i c)
  first : 0 < n → ∀ b c i, thr < a1 (ix3 b i c) → a1 (ix3 b i c) ≤ R.main_v21_8 (ix3 0 b c)

variable {a0 : Boxes} {a1 : Scores} {n : ℕ} {K : L1 Ideal} {R : State Ideal}

theorem Sim.ge (h : Sim a0 a1 n K R) (b : Fin 2) (c : Fin 20) (i : Fin 5000) : neg ≤ R.main_v21_7 (ix3 b c i) := by
  rcases h.orig b c i with h1 | ⟨h1, h2⟩
  · exact h1.ge
  · rw [h1]; exact (neg_lt_negHalf.trans (negHalf_lt_thr.trans h2)).le

theorem Sim.refFirst (b : Fin 2) (c : Fin 20) : IsFirst (fun i => R.main_v21_7 (ix3 b c i)) (best R b c) :=
  ord_zero _ _ (Fin.val_zero 5000)

theorem wide_of_lt (i : Fin 5120) (h : i.val < 5000) : i = wide ⟨i.val, h⟩ := Fin.ext rfl

/-- The kernel picks the reference's box. -/
theorem Sim.isFirst (h : Sim a0 a1 n K R) (b : Fin 2) (c : Fin 20) :
    IsFirst (fun i => K.s (ix2 (row b c) i)) (wide (best R b c)) := by
  have hf := Sim.refFirst (R := R) b c
  refine ⟨fun i => ?_, fun i hi => ?_⟩
  · by_cases hi : i.val < 5000
    · rw [wide_of_lt i hi]; simp only [h.s]; exact hf.1 _
    · simp only [h.s]; rw [h.pad b c i (by omega)]; exact h.ge b c _
  · have hi' : i.val < (best R b c).val := by simpa [wide, Fin.lt_def] using hi
    have hlt : i.val < 5000 := hi'.trans (best R b c).isLt
    rw [wide_of_lt i hlt]; simp only [h.s]; exact hf.2 _ hi'

theorem wide_inj {i k : Fin 5000} : wide i = wide k ↔ i = k := by
  simp [wide, Fin.ext_iff]

/-- The scores after a trip. -/
theorem Sim.scores_next (h : Sim a0 a1 n K R) (b : Fin 2) (c : Fin 20) (i : Fin 5000) :
    (Cert.ReferenceIdeal.Step.step n R).main_v21_7 (ix3 b c i)
      = cut (R.main_v21_7 (ix3 b c (best R b c))) (iou (a0 (ix3 b (best R b c) 0)) (a0 (ix3 b (best R b c) 1))
        (a0 (ix3 b (best R b c) 2)) (a0 (ix3 b (best R b c) 3)) (a0 (ix3 b i 0)) (a0 (ix3 b i 1)) (a0 (ix3 b i 2))
        (a0 (ix3 b i 3))) (R.main_v21_7 (ix3 b c i)) (i = best R b c) := by
  rw [Cert.ReferenceIdeal.Step.step_main_v21_7, read_b81 n R b c (h.frozen.area b) i, h.frozen.box, h.frozen.x1,
    h.frozen.y1, h.frozen.x2, h.frozen.y2]

/-- The selections' scores after a trip. -/
theorem Sim.pick_next (h : Sim a0 a1 n K R) (hn : n < 300) (b : Fin 2) (c : Fin 20) (t : Fin 300) :
    (Cert.ReferenceIdeal.Step.step n R).main_v21_8 (ix3 t b c)
      = if t.val = n then R.main_v21_7 (ix3 b c (best R b c)) else R.main_v21_8 (ix3 t b c) := by
  rw [Cert.ReferenceIdeal.Step.step_main_v21_8, read_b89 n R b c hn t, read_b85]
  congr 1
  rcases h.orig b c (best R b c) with h1 | ⟨h1, h2⟩
  · rw [h1, if_neg (lt_asymm neg_lt_negHalf)]
  · rw [if_pos (h1 ▸ negHalf_lt_thr.trans h2)]

/-- One trip of both loops. -/
theorem Sim.step {X0 X1 X2 X3 X4 A : Rows} (hX : Inputs a0 a1 X0 X1 X2 X3 X4)
    (hA : ∀ r i, A (ix2 r i) = (X3 (ix2 r i) - X1 (ix2 r i)) * (X4 (ix2 r i) - X2 (ix2 r i))) (hn : n < 300)
    (h : Sim a0 a1 n K R) :
    Sim a0 a1 (n + 1) (step1 lane5120 lane304 X1 X2 X3 X4 A n K) (Cert.ReferenceIdeal.Step.step n R) := by
  have hs := h.scores_next
  have h8 := h.pick_next hn
  have h9 : ∀ b c (t : Fin 300) (q : Fin 4), (Cert.ReferenceIdeal.Step.step n R).main_v21_9 (ix4 t b c q)
      = if t.val = n then a0 (ix3 b (best R b c) q) else R.main_v21_9 (ix4 t b c q) := by
    intro b c t q
    rw [Cert.ReferenceIdeal.Step.step_main_v21_9, read_b94 n R b c hn t, read_b13, h.frozen.box]
  have lt_or : ∀ t : Fin 300, t.val < n + 1 → t.val ≠ n → t.val < n := fun t h1 h2 => by omega
  refine ⟨⟨h.frozen.box, h.frozen.x1, h.frozen.y1, h.frozen.x2, h.frozen.y2, h.frozen.area⟩, ?_, ?_, ?_, ?_, ?_, ?_, ?_,
    ?_, ?_, ?_, ?_, ?_⟩
  · intro b c i
    rw [step1_s (row b c) (wide (best R b c)) X1 X2 X3 X4 A n K (h.isFirst b c) (wide i) (hA _ _), hs, h.s, h.s, hX.x1,
      hX.x1, hX.y1, hX.y1, hX.x2, hX.x2, hX.y2, hX.y2]
    unfold cut
    simp only [wide_inj]
  · intro b c i hi
    rw [step1_s (row b c) (wide (best R b c)) X1 X2 X3 X4 A n K (h.isFirst b c) i (hA _ _)]
    rcases cut_cases _ _ (K.s (ix2 (row b c) i)) (i = wide (best R b c)) with h1 | h1
    · exact h1
    · exact h1.trans (h.pad b c i hi)
  · intro b c i
    rw [hs]
    rcases cut_cases _ _ (R.main_v21_7 (ix3 b c i)) (i = best R b c) with h1 | h1
    · exact .inl h1
    · rw [h1]; exact h.orig b c i
  · intro b c t ht
    rw [step1_ss (row b c) (wide (best R b c)) X1 X2 X3 X4 A n K hn (h.isFirst b c), h8, h.s]
    show (if t.val = n then _ else _) = _
    split
    · rfl
    · rename_i h'; exact h.ss b c t (lt_or t ht h')
  · intro b c t ht
    rw [step1_ss (row b c) (wide (best R b c)) X1 X2 X3 X4 A n K hn (h.isFirst b c), if_neg (by omega)]
    exact h.rest b c t (by omega)
  · intro b c t ht
    rw [step1_x1 (row b c) (wide (best R b c)) X1 X2 X3 X4 A n K hn (h.isFirst b c), h9, hX.x1]
    show (if t.val = n then _ else _) = _
    split
    · rfl
    · rename_i h'; exact h.x1 b c t (lt_or t ht h')
  · intro b c t ht
    rw [step1_y1 (row b c) (wide (best R b c)) X1 X2 X3 X4 A n K hn (h.isFirst b c), h9, hX.y1]
    show (if t.val = n then _ else _) = _
    split
    · rfl
    · rename_i h'; exact h.y1 b c t (lt_or t ht h')
  · intro b c t ht
    rw [step1_x2 (row b c) (wide (best R b c)) X1 X2 X3 X4 A n K hn (h.isFirst b c), h9, hX.x2]
    show (if t.val = n then _ else _) = _
    split
    · rfl
    · rename_i h'; exact h.x2 b c t (lt_or t ht h')
  · intro b c t ht
    rw [step1_y2 (row b c) (wide (best R b c)) X1 X2 X3 X4 A n K hn (h.isFirst b c), h9, hX.y2]
    show (if t.val = n then _ else _) = _
    split
    · rfl
    · rename_i h'; exact h.y2 b c t (lt_or t ht h')
  · intro b c t ht
    rw [h8]
    split
    · rcases h.orig b c (best R b c) with h1 | h1
      · exact .inl h1
      · exact .inr ⟨_, h1⟩
    · rename_i h'; exact h.sel b c t (lt_or t ht h')
  · intro h0; omega
  · intro _ b c i hi
    rw [h8]
    split
    · rename_i h'
      rw [← h.start h'.symm b c i hi]
      exact (Sim.refFirst (R := R) b c).1 i
    · rename_i h'
      exact h.first (Nat.pos_of_ne_zero fun h0 => h' h0.symm) b c i hi

end Cert.Proof.Math
-- ==== Proof.Math.Select.lean ====
/-
  The kernel's second loop takes out the selections of an image in the order of the stable sort by decreasing score, as long as
  the other image's trip does not remove one of its entries.
-/
module

public import proofs.«01_k».proof.Proof.Math.Extract
public import proofs.«01_k».proof.Proof.Math.Sim

@[expose] public section

set_option maxHeartbeats 400000

namespace Cert.Proof.Math

open Idealize.ShloMosaic
open Cert.KernelIdeal Cert.KernelIdeal.Gen Cert.Proof.KernelIdeal

/-- The class of a selection. -/
def cls (i : Fin 6000) : Fin 20 := ⟨i.val / 300, by omega⟩
/-- Its place among the class's selections. -/
def slot (i : Fin 6000) : Fin 300 := ⟨i.val % 300, by omega⟩
/-- A trip of the second loop, as a position of the sort. -/
def big (k : Fin 300) : Fin 6000 := ⟨k.val, by omega⟩

theorem cell_inj {b : Fin 2} {i j : Fin 6000} (h : row b (cls i) = row b (cls j)) (h' : lane (slot i) = lane (slot j)) :
    i = j := by
  have h1 : b.val * 20 + i.val / 300 = b.val * 20 + j.val / 300 := congrArg Fin.val h
  have h2 : i.val % 300 = j.val % 300 := congrArg Fin.val h'
  exact Fin.ext (by omega)

theorem cell_pos {b : Fin 2} {i j : Fin 6000} (h : i ≤ j) :
    pos (row b (cls i)) (lane (slot i)) ≤ pos (row b (cls j)) (lane (slot j)) := by
  have h : i.val ≤ j.val := h
  show (b.val * 20 + i.val / 300) * 304 + i.val % 300 ≤ (b.val * 20 + j.val / 300) * 304 + j.val % 300
  omega

theorem cell_of (c : Fin 20) (t : Fin 304) (ht : t.val < 300) : ∃ i, cls i = c ∧ lane (slot i) = t :=
  ⟨⟨c.val * 300 + t.val, by omega⟩, Fin.ext (by show (c.val * 300 + t.val) / 300 = c.val; omega),
    Fin.ext (by show (c.val * 300 + t.val) % 300 = t.val; omega)⟩

theorem row_split (r : Fin 40) : ∃ b c, r = row b c :=
  ⟨⟨r.val / 20, by omega⟩, ⟨r.val % 20, by omega⟩, Fin.ext (by show r.val = r.val / 20 * 20 + r.val % 20; omega)⟩

/-- The rows of an image. -/
noncomputable def mask (b : Fin 2) : IVec S40x304 1 := if b = 0 then k0_pay63 else k0_pay64

theorem masked (b b' : Fin 2) (c : Fin 20) (t : Fin 304) (s : Table) :
    k0_pay16 (mask b) s (ix2 (row b' c) t) = if b' = b then s (ix2 (row b' c) t) else neg := by
  have hb : b = 0 ∨ b = 1 := by omega
  have hb' : b' = 0 ∨ b' = 1 := by omega
  have hr : (row b' c).val = b'.val * 20 + c.val := rfl
  rcases hb with rfl | rfl
  · show k0_pay16 k0_pay63 s _ = _
    rw [readMask0, hr]
    rcases hb' with rfl | rfl
    · rw [if_pos (by simp), if_pos rfl]
    · rw [if_neg (by simp), if_neg (by decide)]
  · show k0_pay16 k0_pay64 s _ = _
    rw [readMask1, hr]
    rcases hb' with rfl | rfl
    · rw [if_neg (by simp), if_neg (by decide)]
    · rw [if_pos (by simp), if_pos rfl]

theorem IsTop.unique {S : Table} {r r' : Fin 40} {t t' : Fin 304} (h : IsTop S r t) (h' : IsTop S r' t') : r = r' ∧ t = t' := by
  have he := le_antisymm (h.le r' t') (h'.le r t)
  exact pos_inj (Nat.le_antisymm (h.first _ _ he) (h'.first _ _ he.symm))

variable (f : Fin 2 → Fin 6000 → EReal)

/-- The selection stands among the first `k` of the sort. -/
def Taken (k : ℕ) (b : Fin 2) (i : Fin 6000) : Prop := ∃ j : Fin 6000, j.val < k ∧ ord (f b) j = i

/-- The first `k` selections of the image are removed and the others are there. -/
structure Left (k : ℕ) (s : Table) (b : Fin 2) : Prop where
  gone : ∀ i, Taken f k b i → s (ix2 (row b (cls i)) (lane (slot i))) = neg
  there : ∀ i, ¬ Taken f k b i → s (ix2 (row b (cls i)) (lane (slot i))) = f b i
  rest : ∀ c (t : Fin 304), 300 ≤ t.val → s (ix2 (row b c) t) = neg

variable {f} {k : Fin 300} {s s' : Table} {b : Fin 2}

theorem not_taken (f : Fin 2 → Fin 6000 → EReal) (k : Fin 300) (b : Fin 2) : ¬ Taken f k.val b (ord (f b) (big k)) := by
  rintro ⟨j, hj, h⟩
  have : j.val = k.val := congrArg Fin.val (ord_injective _ h)
  omega

theorem after_taken {i : Fin 6000} (h : ¬ Taken f k.val b i) : i = ord (f b) (big k) ∨ Before (f b) (ord (f b) (big k)) i :=
  ord_max _ _ _ fun j hj he => h ⟨j, hj, he⟩

theorem taken_succ {i : Fin 6000} (h : Taken f (k.val + 1) b i) : Taken f k.val b i ∨ i = ord (f b) (big k) := by
  obtain ⟨j, hj, rfl⟩ := h
  rcases Nat.lt_succ_iff_lt_or_eq.1 hj with h | h
  · exact .inl ⟨j, h, rfl⟩
  · exact .inr (congrArg _ (Fin.ext h))

/-- The entries of the image are at most the selection that comes next. -/
theorem Left.cases (h : Left f k.val s b) (hf : ∀ i, neg ≤ f b i) (c : Fin 20) (t : Fin 304) :
    s (ix2 (row b c) t) = neg ∨ ∃ i, cls i = c ∧ lane (slot i) = t ∧ ¬ Taken f k.val b i ∧ s (ix2 (row b c) t) = f b i := by
  rcases lt_or_ge t.val 300 with ht | ht
  · obtain ⟨i, rfl, rfl⟩ := cell_of c t ht
    by_cases hi : Taken f k.val b i
    · exact .inl (h.gone i hi)
    · exact .inr ⟨i, rfl, rfl, hi, h.there i hi⟩
  · exact .inl (h.rest c t ht)

theorem Left.top (h : Left f k.val s b) (hf : ∀ i, neg ≤ f b i) (hJ : neg < f b (ord (f b) (big k))) :
    IsTop (k0_pay16 (mask b) s) (row b (cls (ord (f b) (big k)))) (lane (slot (ord (f b) (big k)))) := by
  have hv : k0_pay16 (mask b) s (ix2 (row b (cls (ord (f b) (big k)))) (lane (slot (ord (f b) (big k)))))
      = f b (ord (f b) (big k)) := by
    rw [masked, if_pos rfl, h.there _ (not_taken f k b)]
  have key : ∀ r t, k0_pay16 (mask b) s (ix2 r t) = neg ∨ ∃ i, row b (cls i) = r ∧ lane (slot i) = t ∧ ¬ Taken f k.val b i ∧
      k0_pay16 (mask b) s (ix2 r t) = f b i := fun r t => by
    obtain ⟨b', c, rfl⟩ := row_split r
    by_cases hb : b' = b
    · subst hb
      rw [masked, if_pos rfl]
      rcases h.cases hf c t with h | ⟨i, hc, ht, hi, he⟩
      · exact .inl h
      · exact .inr ⟨i, by rw [hc], ht, hi, he⟩
    · exact .inl (by rw [masked, if_neg hb])
  constructor
  · intro r t
    rw [hv]
    rcases key r t with he | ⟨i, -, -, hi, he⟩
    · rw [he]; exact hJ.le
    · rw [he]
      rcases after_taken hi with h | h
      · exact h ▸ le_rfl
      · exact h.le
  · intro r t hrt
    rw [hv] at hrt
    rcases key r t with he | ⟨i, rfl, rfl, hi, he⟩
    · exact absurd (he.symm.trans hrt) hJ.ne
    · rw [he] at hrt
      rcases after_taken hi with h | h | h
      · exact h ▸ le_rfl
      · exact absurd hrt h.ne
      · exact cell_pos h.2.le

theorem Left.none (h : Left f k.val s b) (hf : ∀ i, neg ≤ f b i) (hJ : f b (ord (f b) (big k)) = neg) (r : Fin 40) (t : Fin 304) :
    k0_pay16 (mask b) s (ix2 r t) = neg := by
  obtain ⟨b', c, rfl⟩ := row_split r
  rw [masked]
  split
  · rename_i hb
    subst hb
    rcases h.cases hf c t with h | ⟨i, -, -, hi, he⟩
    · exact h
    · rw [he]
      refine le_antisymm ?_ (hf i)
      rcases after_taken hi with h | h
      · rw [h, hJ]
      · exact h.le.trans_eq hJ
  · rfl

/-- What the trip reads for the image. -/
theorem Left.value (h : Left f k.val s b) (hf : ∀ i, neg ≤ f b i) :
    ∃ r t, IsTop (k0_pay16 (mask b) s) r t ∧ k0_pay16 (mask b) s (ix2 r t) = f b (ord (f b) (big k)) ∧
      (neg < f b (ord (f b) (big k)) → r = row b (cls (ord (f b) (big k))) ∧ t = lane (slot (ord (f b) (big k)))) := by
  rcases (hf (ord (f b) (big k))).eq_or_lt with hJ | hJ
  · obtain ⟨r, t, ht⟩ := exists_top (k0_pay16 (mask b) s)
    exact ⟨r, t, ht, (h.none hf hJ.symm r t).trans hJ, fun hlt => absurd hJ hlt.ne⟩
  · refine ⟨_, _, h.top hf hJ, ?_, fun _ => ⟨rfl, rfl⟩⟩
    rw [masked, if_pos rfl, h.there _ (not_taken f k b)]

theorem Left.next (h : Left f k.val s b) (hf : ∀ i, neg ≤ f b i) {r r' : Fin 40} {t t' : Fin 304}
    (ht : IsTop (k0_pay16 (mask b) s) r t)
    (hs : ∀ x y, s' (ix2 x y) = if (x = r ∧ y = t) ∨ (x = r' ∧ y = t') then neg else s (ix2 x y))
    (ho : ∀ i, row b (cls i) = r' → lane (slot i) = t' → f b i = neg ∨ Taken f (k.val + 1) b i) :
    Left f (k.val + 1) s' b := by
  constructor
  · intro i hi
    rw [hs]
    split
    · rfl
    · rename_i hn
      rcases taken_succ hi with hi | hi
      · exact h.gone i hi
      · rcases (hf (ord (f b) (big k))).eq_or_lt with hJ | hJ
        · rw [hi, h.there _ (not_taken f k b)]; exact hJ.symm
        · rw [hi] at hn
          exact absurd ((h.top hf hJ).unique ht) fun h => hn (.inl h)
  · intro i hi
    have hi0 : ¬ Taken f k.val b i := fun ⟨j, hj, h⟩ => hi ⟨j, by omega, h⟩
    rw [hs]
    split
    · rename_i hn
      rcases hn with hn | hn
      · rcases (hf (ord (f b) (big k))).eq_or_lt with hJ | hJ
        · refine le_antisymm (hf i) ?_
          rcases after_taken hi0 with h | h
          · rw [h]; exact hJ.ge
          · exact h.le.trans_eq hJ.symm
        · have := (h.top hf hJ).unique ht
          have he : ord (f b) (big k) = i := cell_inj (this.1.trans hn.1.symm) (this.2.trans hn.2.symm)
          exact absurd ⟨big k, Nat.lt_succ_self _, he⟩ hi
      · rcases ho i hn.1 hn.2 with h | h
        · exact h.symm
        · exact absurd h hi
    · exact h.there i hi0
  · intro c y hy
    rw [hs]
    split
    · rfl
    · exact h.rest c y hy

/-- The other image's greatest entry lies in its own rows, or it is the table's first entry and the other image has none left. -/
theorem other_top {r : Fin 40} {t : Fin 304} (ht : IsTop (k0_pay16 (mask b) s) r t) (hs : ∀ x y, neg ≤ s (ix2 x y)) :
    (∃ c, r = row b c) ∨ (r.val = 0 ∧ t.val = 0 ∧ k0_pay16 (mask b) s (ix2 r t) = neg) := by
  obtain ⟨b', c, rfl⟩ := row_split r
  by_cases hb : b' = b
  · exact .inl ⟨c, by rw [hb]⟩
  · right
    have hv : k0_pay16 (mask b) s (ix2 (row b' c) t) = neg := by rw [masked, if_neg hb]
    have h0 : k0_pay16 (mask b) s (ix2 (row 0 0) 0) = neg := by
      refine le_antisymm ((ht.le _ _).trans_eq hv) ?_
      rw [masked]; split
      · exact hs _ _
      · exact le_rfl
    have : pos (row b' c) t ≤ 0 := ht.first (row 0 0) 0 (h0.trans hv.symm)
    unfold pos at this
    exact ⟨by omega, by omega, hv⟩

/-! ## All trips -/

variable (f) in
/-- The trip of the second image removes no selection of the first image that is still to come. -/
def Clean (k : Fin 300) : Prop := f 1 (ord (f 1) (big k)) = neg → f 0 ⟨0, by decide⟩ = neg ∨ Taken f (k.val + 1) 0 ⟨0, by decide⟩

/-- The table before trip `n`. -/
noncomputable abbrev table (s0 : Table) (n : ℕ) : Table := it2 (F := Ideal) places (mask 0) (mask 1) s0 n

variable {s0 : Table}

theorem table_ge (h0 : ∀ x y, neg ≤ s0 (ix2 x y)) (n : ℕ) : ∀ x y, neg ≤ table s0 n (ix2 x y) := by
  induction n with
  | zero => exact h0
  | succ n ih =>
    intro x y
    obtain ⟨r, t, h⟩ := exists_top (k0_pay16 (mask 0) (table s0 n))
    obtain ⟨r', t', h'⟩ := exists_top (k0_pay16 (mask 1) (table s0 n))
    refine le_of_le_of_eq ?_ (readStep _ _ r t _ r' t' h h' x y).symm
    split
    · exact le_rfl
    · exact ih x y

theorem left_one (hf : ∀ b i, neg ≤ f b i) (h0 : ∀ x y, neg ≤ s0 (ix2 x y)) (hl : Left f 0 s0 1) (n : ℕ) (hn : n ≤ 300) :
    Left f n (table s0 n) 1 := by
  induction n with
  | zero => exact hl
  | succ n ih =>
    obtain ⟨r, t, h⟩ := exists_top (k0_pay16 (mask 0) (table s0 n))
    obtain ⟨r', t', h'⟩ := exists_top (k0_pay16 (mask 1) (table s0 n))
    refine Left.next (k := ⟨n, by omega⟩) (ih (by omega)) (hf 1) h' (r' := r) (t' := t) (fun x y => ?_) fun i hi _ => ?_
    · exact (readStep _ _ r t _ r' t' h h' x y).trans (by simp only [or_comm])
    · have hi : 20 + i.val / 300 = r.val := congrArg Fin.val hi
      rcases other_top h (table_ge h0 n) with ⟨c, rfl⟩ | ⟨hr, -⟩
      · have hr : (row 0 c).val = 0 * 20 + c.val := rfl
        omega
      · omega

theorem left_zero (hf : ∀ b i, neg ≤ f b i) (h0 : ∀ x y, neg ≤ s0 (ix2 x y)) (hl : ∀ b, Left f 0 s0 b) (n : ℕ) (hn : n ≤ 300)
    (hc : ∀ k : Fin 300, k.val < n → Clean f k) : Left f n (table s0 n) 0 := by
  induction n with
  | zero => exact hl 0
  | succ n ih =>
    obtain ⟨r, t, h⟩ := exists_top (k0_pay16 (mask 0) (table s0 n))
    obtain ⟨r', t', h'⟩ := exists_top (k0_pay16 (mask 1) (table s0 n))
    refine Left.next (k := ⟨n, by omega⟩) (ih (by omega) fun k hk => hc k (by omega)) (hf 0) h (r' := r') (t' := t')
      (fun x y => readStep _ _ r t _ r' t' h h' x y) fun i hi hi' => ?_
    have hi : 0 * 20 + i.val / 300 = r'.val := congrArg Fin.val hi
    have hi' : i.val % 300 = t'.val := congrArg Fin.val hi'
    rcases other_top h' (table_ge h0 n) with ⟨c, rfl⟩ | ⟨hr, ht, hv⟩
    · have hr : (row 1 c).val = 1 * 20 + c.val := rfl
      omega
    · have hz : i = ⟨0, by decide⟩ := Fin.ext (by show i.val = 0; omega)
      rw [hz]
      refine hc ⟨n, by omega⟩ (Nat.lt_succ_self n) ?_
      have hl1 := left_one hf h0 (hl 1) n (by omega)
      refine le_antisymm (not_lt.1 fun hlt => ?_) (hf 1 _)
      have := (Left.top (k := ⟨n, by omega⟩) hl1 (hf 1) hlt).unique h'
      have h1 : 1 * 20 + _ = r'.val := congrArg Fin.val this.1
      omega

end Cert.Proof.Math
-- ==== Proof.Math.RefOut.lean ====
/-
  The reference's three results, read one entry at a time.
-/
module

public import proofs.«01_k».proof.Proof.Math.RefPick
public import proofs.«01_k».proof.Proof.Math.Select

@[expose] public section

set_option maxHeartbeats 400000

namespace Cert.Proof.Math

open Idealize.ShloMosaic
open Cert.ReferenceIdeal Cert.ReferenceIdeal.Gen Cert.ReferenceIdeal.Step

variable (R : State Ideal) (b : Fin 2) (k : Fin 300)

/-- An image's selections, class after class. -/
noncomputable def flat (R : State Ideal) (b : Fin 2) (i : Fin 6000) : EReal := R.main_v21_8 (ix3 (slot i) b (cls i))

/-- The selection that stands at `k`. -/
noncomputable def kth : Fin 6000 := ord (flat R b) (big k)

/-- All selections' scores. -/
noncomputable def scores6000 : FVec Ideal S2x6000 .f32 :=
  shapeCast S2x6000 (transpose S2x20x300 [1, 2, 0] R.main_v21_8 transposes_S300x2x20_S2x20x300_1_2_0) shapeCasts_S2x20x300_S2x6000
/-- All selections' boxes. -/
noncomputable def boxes6000 : FVec Ideal S2x6000x4 .f32 :=
  shapeCast S2x6000x4 (transpose S2x20x300x4 [1, 2, 0, 3] R.main_v21_9 transposes_S300x2x20x4_S2x20x300x4_1_2_0_3)
    shapeCasts_S2x20x300x4_S2x6000x4
/-- All selections' labels. -/
def labels6000 : IVec S6000 32 :=
  shapeCast S6000 (broadcastInDim S20x300 ![0, 1] bcast_S20x1_S20x300_0_1 (broadcastInDim S20x1 ![0] bcast_S20_S20x1_0
    (iotaInDim S20 32 0))) shapeCasts_S20x300_S6000

theorem read_scores6000 (i : Fin 6000) : scores6000 R (ix2 b i) = flat R b i := by
  refine (shapeCast_apply _ _ _ (ix3 b (cls i) (slot i)) ?_).trans ?_
  · rw [Shape.rowMajor_val_three, Shape.rowMajor_val_two]
    show (b.val * 20 + i.val / 300) * 300 + i.val % 300 = b.val * 6000 + i.val
    omega
  · pointwise
    rfl

theorem read_boxes6000 (i : Fin 6000) (q : Fin 4) :
    boxes6000 R (ix3 b i q) = R.main_v21_9 (ix4 (slot i) b (cls i) q) := by
  refine (shapeCast_apply _ _ _ (ix4 b (cls i) (slot i) q) ?_).trans ?_
  · rw [Shape.rowMajor_val_four, Shape.rowMajor_val_three]
    show ((b.val * 20 + i.val / 300) * 300 + i.val % 300) * 4 + q.val = (b.val * 6000 + i.val) * 4 + q.val
    omega
  · pointwise

theorem read_labels6000 (i : Fin 6000) : labels6000 (ix1 i) = BitVec.ofNat 32 (cls i).val := by
  refine (shapeCast_apply _ _ _ (ix2 (cls i) (slot i)) ?_).trans ?_
  · rw [Shape.rowMajor_val_two, Shape.rowMajor_val_one]
    show i.val / 300 * 300 + i.val % 300 = i.val
    omega
  · pointwise

/-- The best selections' scores. -/
noncomputable def bestScores : FVec Ideal S2x300 .f32 := (Host.topK S2x300 1 (FloatOps.cmpfTotal .gt) (scores6000 R) sliceFits_S2x6000_S2x300).1
/-- Their positions. -/
noncomputable def bestPlaces : IVec S2x300 32 := (Host.topK S2x300 1 (FloatOps.cmpfTotal .gt) (scores6000 R) sliceFits_S2x6000_S2x300).2

theorem flat_eq : (fun i => scores6000 R (ix2 b i)) = flat R b := funext fun i => read_scores6000 R b i

theorem read_bestScores : bestScores R (ix2 b k) = flat R b (kth R b k) := by
  refine (topK2_val _ b k).trans ?_
  rw [read_scores6000, flat_eq]
  rfl

theorem read_bestPlaces : bestPlaces R (ix2 b k) = BitVec.ofNat 32 (kth R b k).val := by
  refine (topK2_idx _ b k).trans ?_
  rw [flat_eq]
  rfl

theorem out43 : R_main_v43 R (ix2 b k) = if negHalf < flat R b (kth R b k) then flat R b (kth R b k) else minusOne := by
  have h : R_main_v43 R = select (cmpf .ogt (bestScores R) (broadcastInDim S2x300 ![] bcast_S_S2x300 (constant (F := Ideal) S_ .f32 0xCDEE6B28#32)))
    (bestScores R) (broadcastInDim S2x300 ![] bcast_S_S2x300 (id (constant (F := Ideal) S_ .f32 0xBF800000#32))) := rfl
  rw [h]
  pointwise
  rw [read_bestScores]
  rfl

/-- The positions, as the label's lookup takes them. -/
noncomputable def labelPlaces : IVec S2x300x1 32 := broadcastInDim S2x300x1 ![0, 1] bcast_S2x300_S2x300x1_0_1 (bestPlaces R)

theorem read_labelPlaces : labelPlaces R (ix3 b k 0) = BitVec.ofNat 32 (kth R b k).val := by
  unfold labelPlaces
  pointwise
  exact read_bestPlaces R b k

theorem label_gather : Host.gather gather_S6000_S2x300x1_S2x300_n_0_n_n_0_2_1 labels6000 (labelPlaces R) (ix2 b k)
    = labels6000 (ix1 (kth R b k)) := by
  unfold Host.gather
  congr 1
  funext a
  refine Fin.ext ?_
  unfold GatherDims.operandIdx
  fin_cases a
  have h := start_eq gather_S6000_S2x300x1_S2x300_n_0_n_n_0_2_1 (ix2 b k) (labelPlaces R) (0 : Fin 1) (by decide)
    (ix3 b k 0) (by funext b; fin_cases b <;> rfl) (kth R b k).val (read_labelPlaces R b k)
    (by have := (kth R b k).isLt; show (kth R b k).val ≤ 6000 - 1; omega) (by omega)
  have h2 : gather_S6000_S2x300x1_S2x300_n_0_n_n_0_2_1.batchCoord (ix2 b k) (0 : Fin 1) = 0 := by
    unfold GatherDims.batchCoord; exact dif_neg (by decide)
  have h3 : gather_S6000_S2x300x1_S2x300_n_0_n_n_0_2_1.offCoord (ix2 b k) (0 : Fin 1) = 0 := by
    unfold GatherDims.offCoord; exact dif_neg (by decide)
  have h : gather_S6000_S2x300x1_S2x300_n_0_n_n_0_2_1.start (ix2 b k) (labelPlaces R) (0 : Fin 1)
      + gather_S6000_S2x300x1_S2x300_n_0_n_n_0_2_1.batchCoord (ix2 b k) (0 : Fin 1)
      + gather_S6000_S2x300x1_S2x300_n_0_n_n_0_2_1.offCoord (ix2 b k) (0 : Fin 1) = (kth R b k).val := by
    rw [h, h2, h3]; omega
  exact h

theorem out44 : R_main_v44 R (ix2 b k)
    = if negHalf < flat R b (kth R b k) then BitVec.ofNat 32 (cls (kth R b k)).val else 4294967295#32 := by
  have h : R_main_v44 R = select (cmpf .ogt (bestScores R) (broadcastInDim S2x300 ![] bcast_S_S2x300 (constant (F := Ideal) S_ .f32 0xCDEE6B28#32)))
    (Host.gather gather_S6000_S2x300x1_S2x300_n_0_n_n_0_2_1 labels6000 (labelPlaces R))
    (broadcastInDim S2x300 ![] bcast_S_S2x300 (id (constantI S_ 32 4294967295#32))) := rfl
  rw [h]
  pointwise
  rw [read_bestScores, label_gather, read_labels6000]
  rfl

/-- The image's number, as the box's lookup takes it. -/
def imagePart : IVec S2x300x1 32 := broadcastInDim S2x300x1 ![0, 1] bcast_S2x300_S2x300x1_0_1
  (broadcastInDim S2x300 ![0, 1] bcast_S2x1_S2x300_0_1 (broadcastInDim S2x1 ![0] bcast_S2_S2x1_0 (iotaInDim S2 32 0)))
/-- The image and the position, as the box's lookup takes them. -/
noncomputable def boxPlaces : IVec S2x300x2 32 := concatenate S2x300x2 2 [⟨S2x300x1, imagePart⟩, ⟨S2x300x1, labelPlaces R⟩]
  concatenates_S2x300x1_S2x300x1_S2x300x2_d2

theorem read_boxPlaces_0 : boxPlaces R (ix3 b k 0) = BitVec.ofNat 32 b.val := by
  refine (concatenate_pair_apply_left (t := S2x300x2) (2 : Fin 3) imagePart (labelPlaces R) _ _ rfl (ix3 b k 0) ?_).trans ?_
  · intro a; fin_cases a <;> rfl
  · pointwise [imagePart]

theorem read_boxPlaces_1 : boxPlaces R (ix3 b k 1) = BitVec.ofNat 32 (kth R b k).val := by
  refine (concatenate_pair_apply_right (t := S2x300x2) (2 : Fin 3) imagePart (labelPlaces R) _ _ rfl rfl (ix3 b k 0) ?_ ?_).trans ?_
  · intro a; fin_cases a <;> first | (intro _; rfl) | (intro h; exact absurd rfl h)
  · rfl
  · exact read_labelPlaces R b k

theorem box_gather (x : FVec Ideal S2x6000x4 .f32) (q : Fin 4) :
    Host.gather gather_S2x6000x4_S2x300x2_S2x300x4_2_01_n_n_01_2_114 x (boxPlaces R) (ix3 b k q) = x (ix3 b (kth R b k) q) := by
  unfold Host.gather
  congr 1
  funext a
  refine Fin.ext ?_
  unfold GatherDims.operandIdx
  fin_cases a
  · have h := start_eq gather_S2x6000x4_S2x300x2_S2x300x4_2_01_n_n_01_2_114 (ix3 b k q) (boxPlaces R) (0 : Fin 3) (by decide)
      (ix3 b k 0) (by funext b; fin_cases b <;> rfl) b.val (read_boxPlaces_0 R b k)
      (by have := b.isLt; show b.val ≤ 2 - 1; omega) (by omega)
    exact h
  · have h := start_eq gather_S2x6000x4_S2x300x2_S2x300x4_2_01_n_n_01_2_114 (ix3 b k q) (boxPlaces R) (1 : Fin 3) (by decide)
      (ix3 b k 1) (by funext b; fin_cases b <;> rfl) (kth R b k).val (read_boxPlaces_1 R b k)
      (by have := (kth R b k).isLt; show (kth R b k).val ≤ 6000 - 1; omega) (by omega)
    have h2 : gather_S2x6000x4_S2x300x2_S2x300x4_2_01_n_n_01_2_114.batchCoord (ix3 b k q) (1 : Fin 3) = 0 := by
      unfold GatherDims.batchCoord; exact dif_neg (by decide)
    have h3 : gather_S2x6000x4_S2x300x2_S2x300x4_2_01_n_n_01_2_114.offCoord (ix3 b k q) (1 : Fin 3) = 0 := by
      unfold GatherDims.offCoord; exact dif_neg (by decide)
    have h : gather_S2x6000x4_S2x300x2_S2x300x4_2_01_n_n_01_2_114.start (ix3 b k q) (boxPlaces R) (1 : Fin 3)
        + gather_S2x6000x4_S2x300x2_S2x300x4_2_01_n_n_01_2_114.batchCoord (ix3 b k q) (1 : Fin 3)
        + gather_S2x6000x4_S2x300x2_S2x300x4_2_01_n_n_01_2_114.offCoord (ix3 b k q) (1 : Fin 3) = (kth R b k).val := by
      rw [h, h2, h3]; omega
    exact h
  · have h1 : gather_S2x6000x4_S2x300x2_S2x300x4_2_01_n_n_01_2_114.start (ix3 b k q) (boxPlaces R) (2 : Fin 3) = 0 := by
      unfold GatherDims.start; exact dif_neg (by decide)
    have h2 : gather_S2x6000x4_S2x300x2_S2x300x4_2_01_n_n_01_2_114.batchCoord (ix3 b k q) (2 : Fin 3) = 0 := by
      unfold GatherDims.batchCoord; exact dif_neg (by decide)
    have h3 : gather_S2x6000x4_S2x300x2_S2x300x4_2_01_n_n_01_2_114.offCoord (ix3 b k q) (2 : Fin 3) = q.val := by
      unfold GatherDims.offCoord; exact dif_pos (by decide)
    have h : gather_S2x6000x4_S2x300x2_S2x300x4_2_01_n_n_01_2_114.start (ix3 b k q) (boxPlaces R) (2 : Fin 3)
        + gather_S2x6000x4_S2x300x2_S2x300x4_2_01_n_n_01_2_114.batchCoord (ix3 b k q) (2 : Fin 3)
        + gather_S2x6000x4_S2x300x2_S2x300x4_2_01_n_n_01_2_114.offCoord (ix3 b k q) (2 : Fin 3) = q.val := by
      rw [h1, h2, h3]; omega
    exact h

theorem choose_box (T : FVec Ideal S2x300 .f32) (G : FVec Ideal S2x300x4 .f32) (q : Fin 4) :
    select (broadcastInDim S2x300x4 ![0, 1, 2] bcast_S2x300x1_S2x300x4_0_1_2
      (broadcastInDim S2x300x1 ![0, 1] bcast_S2x300_S2x300x1_0_1 (cmpf .ogt T
        (broadcastInDim S2x300 ![] bcast_S_S2x300 (constant (F := Ideal) S_ .f32 0xCDEE6B28#32)))))
    G (broadcastInDim S2x300x4 ![] bcast_S_S2x300x4 (id (constant (F := Ideal) S_ .f32 0xBF800000#32))) (ix3 b k q)
    = if negHalf < T (ix2 b k) then G (ix3 b k q) else minusOne := by
  pointwise
  rfl

theorem out42 (q : Fin 4) : R_main_v42 R (ix3 b k q) = if negHalf < flat R b (kth R b k)
    then R.main_v21_9 (ix4 (slot (kth R b k)) b (cls (kth R b k)) q) else minusOne := by
  have h : R_main_v42 R = select (broadcastInDim S2x300x4 ![0, 1, 2] bcast_S2x300x1_S2x300x4_0_1_2
      (broadcastInDim S2x300x1 ![0, 1] bcast_S2x300_S2x300x1_0_1 (cmpf .ogt (bestScores R)
        (broadcastInDim S2x300 ![] bcast_S_S2x300 (constant (F := Ideal) S_ .f32 0xCDEE6B28#32)))))
    (Host.gather gather_S2x6000x4_S2x300x2_S2x300x4_2_01_n_n_01_2_114 (boxes6000 R) (boxPlaces R))
    (broadcastInDim S2x300x4 ![] bcast_S_S2x300x4 (id (constant (F := Ideal) S_ .f32 0xBF800000#32))) := rfl
  rw [h, choose_box, read_bestScores, box_gather, read_boxes6000]

end Cert.Proof.Math
-- ==== Proof.Math.Start.lean ====
/-
  The two loops' initial states, of the arguments.
-/
module

public import proofs.«01_k».proof.Proof.Math.Sim

@[expose] public section

set_option maxHeartbeats 400000

namespace Cert.Proof.Math

open Idealize.ShloMosaic
open Cert.KernelIdeal.Gen Cert.Proof.KernelIdeal
open Cert.ReferenceIdeal.Step

variable (a0 : Boxes) (a1 : Scores)

theorem init_s (b : Fin 2) (c : Fin 20) (i : Fin 5000) : (init (F := Ideal) a0 a1).main_v21_7 (ix3 b c i)
    = if thr < a1 (ix3 b i c) then a1 (ix3 b i c) else neg := by
  unfold init
  pointwise [A_main_v18, A_main_v17, A_main_v15, K_main_v16, K_main_cst, K_main_call0_v1, K_main_call0_v0, K_main_cst_0]
  rfl

theorem init_x1 (b : Fin 2) (i : Fin 5000) : (init (F := Ideal) a0 a1).main_v21_1 (ix3 b 0 i) = a0 (ix3 b i 0) := by
  unfold init
  pointwise [A_main_v2, A_main_v1, A_main_v0]

theorem init_y1 (b : Fin 2) (i : Fin 5000) : (init (F := Ideal) a0 a1).main_v21_2 (ix3 b 0 i) = a0 (ix3 b i 1) := by
  unfold init
  pointwise [A_main_v5, A_main_v4, A_main_v3]

theorem init_x2 (b : Fin 2) (i : Fin 5000) : (init (F := Ideal) a0 a1).main_v21_3 (ix3 b 0 i) = a0 (ix3 b i 2) := by
  unfold init
  pointwise [A_main_v8, A_main_v7, A_main_v6]

theorem init_y2 (b : Fin 2) (i : Fin 5000) : (init (F := Ideal) a0 a1).main_v21_4 (ix3 b 0 i) = a0 (ix3 b i 3) := by
  unfold init
  pointwise [A_main_v11, A_main_v10, A_main_v9]

theorem init_area (b : Fin 2) : AreaOk (init (F := Ideal) a0 a1) b := by
  intro i
  unfold init
  pointwise [A_main_v14, A_main_v13, A_main_v12]

variable {a0 a1} {X0 X1 X2 X3 X4 : Rows} (hX : Inputs a0 a1 X0 X1 X2 X3 X4)
include hX

theorem sim_zero : Sim a0 a1 0 (start1 X0) (init (F := Ideal) a0 a1) := by
  have hk : ∀ r i, (start1 (F := Ideal) X0).s (ix2 r i) = if thr < X0 (ix2 r i) then X0 (ix2 r i) else neg := by
    intro r i
    pointwise [start1, k0_pay53]
    rfl
  refine ⟨⟨rfl, init_x1 a0 a1, init_y1 a0 a1, init_x2 a0 a1, init_y2 a0 a1, init_area a0 a1⟩, ?_, ?_, ?_,
    fun _ _ t h => absurd h (Nat.not_lt_zero _), ?_, fun _ _ t h => absurd h (Nat.not_lt_zero _),
    fun _ _ t h => absurd h (Nat.not_lt_zero _), fun _ _ t h => absurd h (Nat.not_lt_zero _),
    fun _ _ t h => absurd h (Nat.not_lt_zero _), fun _ _ t h => absurd h (Nat.not_lt_zero _), ?_,
    fun h => absurd h (Nat.not_lt_zero _)⟩
  · intro b c i
    rw [hk, init_s, hX.sc]
  · intro b c i hi
    rw [hk, hX.pad b c i hi, if_neg (lt_asymm minusOne_lt_thr)]
  · intro b c i
    rw [init_s]
    split
    · rename_i h; exact .inr ⟨rfl, h⟩
    · exact .inl rfl
  · intro b c t _
    pointwise [start1, k0_pay55]
    rfl
  · intro _ b c i h
    rw [init_s, if_pos h]

/-- The kernel's state and the reference's after any number of trips up to 300. -/
theorem sim_all (R : ℕ → State Ideal) (h0 : R 0 = init (F := Ideal) a0 a1) (hs : ∀ n, R (n + 1) = step n (R n)) (n : ℕ)
    (hn : n ≤ 300) : Sim a0 a1 n (state1 X0 X1 X2 X3 X4 n) (R n) := by
  have hX' : Inputs a0 a1 X0 (k0_pay49 (F := Ideal) X1) (k0_pay50 (F := Ideal) X2) (k0_pay51 (F := Ideal) X3)
      (k0_pay52 (F := Ideal) X4) := by
    refine ⟨hX.sc, hX.pad, fun b c i => ?_, fun b c i => ?_, fun b c i => ?_, fun b c i => ?_⟩
    · pointwise [k0_pay49]; exact hX.x1 b c i
    · pointwise [k0_pay50]; exact hX.y1 b c i
    · pointwise [k0_pay51]; exact hX.x2 b c i
    · pointwise [k0_pay52]; exact hX.y2 b c i
  have hA : ∀ r i, k0_pay54 (F := Ideal) X1 X2 X3 X4 (ix2 r i)
      = (k0_pay51 (F := Ideal) X3 (ix2 r i) - k0_pay49 (F := Ideal) X1 (ix2 r i))
        * (k0_pay52 (F := Ideal) X4 (ix2 r i) - k0_pay50 (F := Ideal) X2 (ix2 r i)) := by
    intro r i
    pointwise [k0_pay54]
  induction n with
  | zero => rw [h0]; exact sim_zero hX
  | succ n ih =>
    rw [hs]
    exact Sim.step hX' hA (by omega) (ih (by omega))

end Cert.Proof.Math
-- ==== Proof.Math.Count.lean ====
/-
  How many selections a class is sure to make: one selection removes no more boxes than the most crowded box has close to it.
-/
module

public import proofs.«01_k».proof.Proof.Math.Start

@[expose] public section

set_option maxHeartbeats 400000

namespace Cert.Proof.Math

open Idealize.ShloMosaic
open Cert.Proof.KernelIdeal
open Cert.ReferenceIdeal.Step (State)

/-- Selecting box `i` removes box `j`. -/
abbrev Near (a0 : Boxes) (b : Fin 2) (i j : Fin 5000) : Prop :=
  half < iou (a0 (ix3 b i 0)) (a0 (ix3 b i 1)) (a0 (ix3 b i 2)) (a0 (ix3 b i 3)) (a0 (ix3 b j 0)) (a0 (ix3 b j 1)) (a0 (ix3 b j 2))
    (a0 (ix3 b j 3)) ∨ i = j

/-- The most boxes that one selection removes. -/
noncomputable def crowd (a0 : Boxes) (b : Fin 2) : ℕ := Finset.univ.sup fun i => (Finset.univ.filter (Near a0 b i)).card

/-- How many scores of a class are over the threshold. -/
noncomputable def many (a1 : Scores) (b : Fin 2) (c : Fin 20) : ℕ := (Finset.univ.filter fun i => thr < a1 (ix3 b i c)).card

/-- The boxes of a class that are neither selected nor removed. -/
noncomputable def alive (R : State Ideal) (b : Fin 2) (c : Fin 20) : Finset (Fin 5000) :=
  Finset.univ.filter fun i => neg < R.main_v21_7 (ix3 b c i)

variable {a0 : Boxes} {a1 : Scores}

theorem alive_zero {K : L1 Ideal} {R : State Ideal} (h : Sim a0 a1 0 K R) (b : Fin 2) (c : Fin 20) :
    many a1 b c ≤ (alive R b c).card := by
  refine Finset.card_le_card fun i hi => ?_
  have hi : thr < a1 (ix3 b i c) := (Finset.mem_filter.1 hi).2
  refine Finset.mem_filter.2 ⟨Finset.mem_univ _, ?_⟩
  rw [h.start rfl b c i hi]
  exact neg_lt_negHalf.trans (negHalf_lt_thr.trans hi)

theorem alive_next {n : ℕ} {K : L1 Ideal} {R : State Ideal} (h : Sim a0 a1 n K R) (b : Fin 2) (c : Fin 20) :
    (alive R b c).card ≤ (alive (Cert.ReferenceIdeal.Step.step n R) b c).card + crowd a0 b := by
  have hsub : alive R b c ⊆ alive (Cert.ReferenceIdeal.Step.step n R) b c ∪ Finset.univ.filter (Near a0 b (best R b c)) := by
    intro i hi
    have hi : neg < R.main_v21_7 (ix3 b c i) := (Finset.mem_filter.1 hi).2
    by_cases hc : Near a0 b (best R b c) i
    · exact Finset.mem_union_right _ (Finset.mem_filter.2 ⟨Finset.mem_univ _, hc⟩)
    · refine Finset.mem_union_left _ (Finset.mem_filter.2 ⟨Finset.mem_univ _, ?_⟩)
      rw [h.scores_next]
      unfold cut
      rw [if_neg fun hn => hc (hn.imp (fun h => h.2) Eq.symm)]
      exact hi
  refine (Finset.card_le_card hsub).trans ((Finset.card_union_le _ _).trans (Nat.add_le_add_left ?_ _))
  exact Finset.le_sup (f := fun i => (Finset.univ.filter (Near a0 b i)).card) (Finset.mem_univ _)

variable {K : ℕ → L1 Ideal} {R : ℕ → State Ideal} (h : ∀ n, n ≤ 300 → Sim a0 a1 n (K n) (R n))
  (hs : ∀ n, R (n + 1) = Cert.ReferenceIdeal.Step.step n (R n))
include h hs

theorem alive_all (b : Fin 2) (c : Fin 20) (n : ℕ) (hn : n ≤ 300) : many a1 b c ≤ (alive (R n) b c).card + n * crowd a0 b := by
  induction n with
  | zero => exact (alive_zero (h 0 hn) b c).trans (Nat.le_add_right _ _)
  | succ n ih =>
    have h1 := ih (by omega)
    have h2 := alive_next (h n (by omega)) b c
    rw [← hs n] at h2
    rw [Nat.add_mul, Nat.one_mul]
    omega

theorem pick_stays (b : Fin 2) (c : Fin 20) (t : Fin 300) (n : ℕ) (ht : t.val + 1 ≤ n) :
    n ≤ 300 → (R n).main_v21_8 (ix3 t b c) = (R t.val).main_v21_7 (ix3 b c (best (R t.val) b c)) := by
  induction n, ht using Nat.le_induction with
  | base => intro hn; rw [hs, (h t.val (by omega)).pick_next t.isLt, if_pos rfl]
  | succ n hn ih => intro hn'; rw [hs, (h n (by omega)).pick_next (by omega), if_neg (by omega)]; exact ih (by omega)

/-- A class makes its selection number `t` whenever it has more scores over the threshold than `t` selections remove. -/
theorem made (b : Fin 2) (c : Fin 20) (t : Fin 300) (ht : t.val * crowd a0 b < many a1 b c) :
    neg < (R 300).main_v21_8 (ix3 t b c) := by
  have hc := alive_all h hs b c t.val t.isLt.le
  have hpos : 0 < (alive (R t.val) b c).card := by omega
  obtain ⟨i, hi⟩ := Finset.card_pos.1 hpos
  have hi : neg < (R t.val).main_v21_7 (ix3 b c i) := (Finset.mem_filter.1 hi).2
  rw [pick_stays h hs b c t 300 (by omega) le_rfl]
  exact hi.trans_le ((Sim.refFirst (R := R t.val) b c).1 i)

end Cert.Proof.Math
-- ==== Proof.Math.Match.lean ====
/-
  The kernel's rows are the reference's: every row of the second image, and those of the first image the mask keeps.
-/
module

public import proofs.«01_k».proof.Proof.Math.RefOut
public import proofs.«01_k».proof.Proof.Math.Count

@[expose] public section

set_option maxHeartbeats 400000

namespace Cert.Proof.Math

open Idealize.ShloMosaic
open Cert.KernelIdeal Cert.KernelIdeal.Gen Cert.Proof.KernelIdeal
open Cert.ReferenceIdeal.Step (State)

variable {a0 : Boxes} {a1 : Scores} {K : L1 Ideal} {R : State Ideal}

theorem flat_ge (h : Sim a0 a1 300 K R) (b : Fin 2) (i : Fin 6000) : neg ≤ flat R b i := by
  rcases h.sel b (cls i) (slot i) (slot i).isLt with he | ⟨j, he, hj⟩
  · exact he.ge
  · exact (neg_lt_negHalf.trans (negHalf_lt_thr.trans hj)).le.trans_eq he.symm

theorem left_start (h : Sim a0 a1 300 K R) (b : Fin 2) : Left (flat R) 0 K.ss b :=
  ⟨fun _ ⟨_, hj, _⟩ => absurd hj (Nat.not_lt_zero _), fun i _ => h.ss b (cls i) (slot i) (slot i).isLt,
    fun c t ht => h.rest b c t ht⟩

theorem ss_ge (h : Sim a0 a1 300 K R) (x : Fin 40) (y : Fin 304) : neg ≤ K.ss (ix2 x y) := by
  obtain ⟨b, c, rfl⟩ := row_split x
  rcases lt_or_ge y.val 300 with hy | hy
  · obtain ⟨i, rfl, rfl⟩ := cell_of c y hy
    exact (flat_ge h b i).trans_eq (h.ss b (cls i) (slot i) (slot i).isLt).symm
  · exact (h.rest b c y hy).ge

/-! ## Which rows of the first image are kept -/

/-- The greatest score of an image's class. -/
noncomputable def peak (a1 : Scores) (b : Fin 2) (c : Fin 20) : EReal := Finset.univ.sup fun i => a1 (ix3 b i c)

/-- How many selections the second image is sure to make. -/
noncomputable def few (a0 : Boxes) (a1 : Scores) : ℕ :=
  ∑ c, (Finset.univ.filter fun t : Fin 300 => t.val * crowd a0 1 < many a1 1 c).card

/-- Those selections are made. -/
def Made (a0 : Boxes) (a1 : Scores) (R : State Ideal) : Prop :=
  ∀ c (t : Fin 300), t.val * crowd a0 1 < many a1 1 c → neg < R.main_v21_8 (ix3 t 1 c)

/-- The rows of the first image the mask keeps. -/
def Settled (a0 : Boxes) (a1 : Scores) (k : Fin 300) : Prop :=
  k.val ≤ few a0 a1 ∨ (∀ c, peak a1 0 c ≤ peak a1 0 0) ∨ peak a1 0 0 ≤ thr

theorem le_peak (a1 : Scores) (b : Fin 2) (c : Fin 20) (i : Fin 5000) : a1 (ix3 b i c) ≤ peak a1 b c :=
  Finset.le_sup (f := fun i => a1 (ix3 b i c)) (Finset.mem_univ i)

/-- The first selection of a class that has a score over the threshold has such a score. -/
theorem first_gt (h : Sim a0 a1 300 K R) (b : Fin 2) (c : Fin 20) (hc : thr < peak a1 b c) : thr < R.main_v21_8 (ix3 0 b c) := by
  obtain ⟨i, -, hi⟩ := Finset.lt_sup_iff.1 hc
  exact hi.trans_le (h.first (by decide) b c i hi)

/-- When the first selection of a class is over the threshold it is the class's greatest score. -/
theorem peak_le (h : Sim a0 a1 300 K R) (b : Fin 2) (c : Fin 20) (hc : thr < peak a1 b c) :
    peak a1 b c ≤ R.main_v21_8 (ix3 0 b c) := by
  refine Finset.sup_le fun i _ => ?_
  rcases lt_or_ge thr (a1 (ix3 b i c)) with hi | hi
  · exact h.first (by decide) b c i hi
  · exact hi.trans (first_gt h b c hc).le

/-- A class's selection, among all of the image. -/
def nth (p : Σ _ : Fin 20, Fin 300) : Fin 6000 := ⟨p.1.val * 300 + p.2.val, by omega⟩

theorem flat_nth (R : State Ideal) (b : Fin 2) (p : Σ _ : Fin 20, Fin 300) : flat R b (nth p) = R.main_v21_8 (ix3 p.2 b p.1) := by
  have h1 : cls (nth p) = p.1 := Fin.ext (by show (p.1.val * 300 + p.2.val) / 300 = p.1.val; omega)
  have h2 : slot (nth p) = p.2 := Fin.ext (by show (p.1.val * 300 + p.2.val) % 300 = p.2.val; omega)
  unfold flat
  rw [h1, h2]

theorem nth_inj : Function.Injective nth := by
  rintro ⟨c, t⟩ ⟨c', t'⟩ h
  have h : c.val * 300 + t.val = c'.val * 300 + t'.val := congrArg Fin.val h
  obtain rfl : c = c' := Fin.ext (by omega)
  obtain rfl : t = t' := Fin.ext (by omega)
  rfl

/-- As long as the selections it is sure to make outnumber the trips, the second image still has a selection. -/
theorem few_le (hm : Made a0 a1 R) (k : Fin 300) (he : flat R 1 (ord (flat R 1) (big k)) = neg) : few a0 a1 ≤ k.val := by
  let g : (Σ _ : Fin 20, Fin 300) → ℕ := fun p => (Function.surjInv (ord_surjective (flat R 1)) (nth p)).val
  have hg : ∀ p, ord (flat R 1) (Function.surjInv (ord_surjective (flat R 1)) (nth p)) = nth p :=
    fun p => Function.surjInv_eq _ _
  have hle := Finset.card_le_card_of_injOn (t := Finset.range k.val)
    (s := Finset.univ.sigma fun c => Finset.univ.filter fun t : Fin 300 => t.val * crowd a0 1 < many a1 1 c) g
    (fun p hp => ?_) (fun p _ p' _ hpp => ?_)
  · rwa [Finset.card_range, Finset.card_sigma] at hle
  · have hp : p.2.val * crowd a0 1 < many a1 1 p.1 := (Finset.mem_filter.1 (Finset.mem_sigma.1 hp).2).2
    have hv : neg < flat R 1 (nth p) := by rw [flat_nth]; exact hm p.1 p.2 hp
    by_contra hn
    have hnt : ¬ Taken (flat R) k.val 1 (nth p) := by
      rintro ⟨j, hj, hjc⟩
      have : j = Function.surjInv (ord_surjective (flat R 1)) (nth p) := ord_injective _ (hjc.trans (hg p).symm)
      exact hn (by simpa [g, ← this] using hj)
    rcases after_taken hnt with h | h
    · rw [h, he] at hv; exact lt_irrefl _ hv
    · exact absurd (h.le.trans_eq he) (not_le.2 hv)
  · have := Fin.ext hpp
    exact nth_inj ((hg p).symm.trans ((congrArg _ this).trans (hg p')))

theorem clean (h : Sim a0 a1 300 K R) (hm : Made a0 a1 R) (k : Fin 300) (hk : Settled a0 a1 k) (j : Fin 300) (hj : j.val < k.val) : Clean (flat R) j := by
  intro he
  rcases hk with hk | hk | hk
  · have := few_le hm j he
    omega
  · refine .inr ⟨⟨0, by decide⟩, Nat.succ_pos _, (ord_zero (flat R 0) _ rfl).unique ⟨fun i => ?_, fun i hi => absurd hi ?_⟩⟩
    · rcases h.sel 0 (cls i) (slot i) (slot i).isLt with hi | ⟨i', hi, hi'⟩
      · exact (show flat R 0 i = neg from hi).trans_le (flat_ge h 0 _)
      · have hp := (le_peak a1 0 (cls i) i').trans (hk (cls i))
        refine ((show flat R 0 i = _ from hi).trans_le hp).trans ?_
        exact (peak_le h 0 0 (hi'.trans_le hp)).trans_eq (flat_nth R 0 ⟨0, 0⟩).symm
    · exact Nat.not_lt_zero i.val
  · left
    have hz := flat_nth R 0 ⟨0, 0⟩
    rcases h.sel 0 0 0 (by decide) with hi | ⟨i', hi, hi'⟩
    · exact hz.trans hi
    · exact absurd (hi'.trans_le ((le_peak a1 0 0 i').trans hk)) (lt_irrefl _)

theorem left_at (h : Sim a0 a1 300 K R) (hm : Made a0 a1 R) (b : Fin 2) (k : Fin 300) (hb : b = 1 ∨ Settled a0 a1 k) :
    Left (flat R) k.val (table K.ss k.val) b := by
  by_cases h1 : b = 1
  · rw [h1]
    exact left_one (flat_ge h) (ss_ge h) (left_start h 1) k.val k.isLt.le
  · have h0 : b = 0 := by omega
    rw [h0]
    exact left_zero (flat_ge h) (ss_ge h) (left_start h) k.val k.isLt.le (clean h hm k (hb.resolve_left h1))

/-! ## The results -/

theorem score_eq_ref (h : Sim a0 a1 300 K R) (hm : Made a0 a1 R) (b : Fin 2) (k : Fin 300) (hb : b = 1 ∨ Settled a0 a1 k) :
    k0_pay23 (k0_pay17 (mask b) (table K.ss k.val)) (ix2 0 0) = Cert.ReferenceIdeal.Step.R_main_v43 R (ix2 b k) := by
  obtain ⟨r, t, ht, hv, -⟩ := (left_at h hm b k hb).value (flat_ge h b)
  rw [readScore _ _ r t ht, hv, out43]
  rfl

theorem corner_eq_ref (h : Sim a0 a1 300 K R) (b : Fin 2) (i : Fin 6000) (q : Fin 4) :
    corner K.x1 K.y1 K.x2 K.y2 q (ix2 (row b (cls i)) (lane (slot i))) = R.main_v21_9 (ix4 (slot i) b (cls i) q) := by
  have hq : q = 0 ∨ q = 1 ∨ q = 2 ∨ q = 3 := by omega
  rcases hq with rfl | rfl | rfl | rfl
  · exact h.x1 b (cls i) (slot i) (slot i).isLt
  · exact h.y1 b (cls i) (slot i) (slot i).isLt
  · exact h.x2 b (cls i) (slot i) (slot i).isLt
  · exact h.y2 b (cls i) (slot i) (slot i).isLt

/-- A row's box, once it is read at the greatest entry. -/
theorem box_eq_ref (h : Sim a0 a1 300 K R) (hm : Made a0 a1 R) (b : Fin 2) (k : Fin 300) (q : Fin 4) (hb : b = 1 ∨ Settled a0 a1 k) (v : EReal)
    (hv : ∀ r t, IsTop (k0_pay16 (mask b) (table K.ss k.val)) r t → v = if negHalf < k0_pay16 (mask b) (table K.ss k.val) (ix2 r t)
      then corner K.x1 K.y1 K.x2 K.y2 q (ix2 r t) else minusOne) :
    v = Cert.ReferenceIdeal.Step.R_main_v42 R (ix3 b k q) := by
  obtain ⟨r, t, ht, hw, hJ⟩ := (left_at h hm b k hb).value (flat_ge h b)
  rw [hv r t ht, hw, out42]
  unfold kth
  split
  · rename_i hc
    obtain ⟨hr, ht⟩ := hJ (neg_lt_negHalf.trans hc)
    rw [hr, ht]
    exact corner_eq_ref h b _ q
  · rfl

theorem boxes (h : Sim a0 a1 300 K R) (hm : Made a0 a1 R) (B : FVec Ideal S2x304x4 .f32)
    (hB : Rows5 places lane4 (mask 0) (mask 1) K.x1 K.y1 K.x2 K.y2 K.ss 300 B) (b : Fin 2) (k : Fin 300) (q : Fin 4)
    (hb : b = 1 ∨ Settled a0 a1 k) : B (ix3 b (lane k) q) = Cert.ReferenceIdeal.Step.R_main_v42 R (ix3 b k q) := by
  refine box_eq_ref h hm b k q hb _ fun r t ht => (hB (ix3 b (lane k) q) (ix3 0 0 q) k.isLt rfl).trans ?_
  have hb' : b = 0 ∨ b = 1 := by omega
  rcases hb' with rfl | rfl
  · exact (if_pos rfl).trans (readA _ _ r t ht K.x1 K.y1 K.x2 K.y2 q)
  · exact (if_neg (show ¬ (1 : ℕ) = 0 by omega)).trans (readB _ _ r t ht K.x1 K.y1 K.x2 K.y2 q)

theorem scores (h : Sim a0 a1 300 K R) (hm : Made a0 a1 R) (S : FVec Ideal S304x8 .f32)
    (hS : Rows6 places lane8 (mask 0) (mask 1) K.ss 300 S) (b : Fin 2) (k : Fin 300) (hb : b = 1 ∨ Settled a0 a1 k) :
    S (ix2 (lane k) (b.castLE (by decide))) = Cert.ReferenceIdeal.Step.R_main_v43 R (ix2 b k) := by
  refine (hS (ix2 (lane k) (b.castLE (by decide))) (ix2 0 (b.castLE (by decide))) k.isLt rfl).trans ?_
  refine Eq.trans ?_ (score_eq_ref h hm b k hb)
  have hb' : b = 0 ∨ b = 1 := by omega
  rcases hb' with rfl | rfl
  · exact scoreRow_0 _ _ _
  · exact scoreRow_1 _ _ _

theorem labels (h : Sim a0 a1 300 K R) (hm : Made a0 a1 R) (L : IVec S304x8 32)
    (hL : Rows7 (F := Ideal) places lane8 (mask 0) (mask 1) K.ss 300 L) (b : Fin 2) (k : Fin 300) (hb : b = 1 ∨ Settled a0 a1 k) :
    L (ix2 (lane k) (b.castLE (by decide))) = Cert.ReferenceIdeal.Step.R_main_v44 R (ix2 b k) := by
  refine (hL (ix2 (lane k) (b.castLE (by decide))) (ix2 0 (b.castLE (by decide))) k.isLt rfl).trans ?_
  obtain ⟨r, t, ht, hw, hJ⟩ := (left_at h hm b k hb).value (flat_ge h b)
  have hr : negHalf < k0_pay16 (mask b) (table K.ss k.val) (ix2 r t) → r = row b (cls (kth R b k)) := fun hc =>
    (hJ (neg_lt_negHalf.trans (hc.trans_eq hw))).1
  rw [out44]
  have hb' : b = 0 ∨ b = 1 := by omega
  rcases hb' with rfl | rfl
  · refine (labelRow_0 _ _ _).trans ((readLabel0 _ _ r t ht).trans ?_)
    rw [show flat R 0 (kth R 0 k) = k0_pay16 (mask 0) (table K.ss k.val) (ix2 r t) from hw.symm]
    split
    · rename_i hc
      rw [hr hc]
      show BitVec.ofNat 32 (0 * 20 + (cls (kth R 0 k)).val) = _
      rw [Nat.zero_mul, Nat.zero_add]
    · rfl
  · refine (labelRow_1 _ _ _).trans ((readLabel1 _ _ r t ht fun hc => ?_).trans ?_)
    · rw [hr hc]; show 20 ≤ 1 * 20 + _; omega
    · rw [show flat R 1 (kth R 1 k) = k0_pay16 (mask 1) (table K.ss k.val) (ix2 r t) from hw.symm]
      split
      · rename_i hc
        rw [hr hc]
        show BitVec.ofNat 32 (1 * 20 + (cls (kth R 1 k)).val - 20) = _
        rw [Nat.one_mul, Nat.add_sub_cancel_left]
      · rfl

end Cert.Proof.Math
-- ==== Proof.Math.MaskRead.lean ====
/-
  The mask, read one entry at a time.
-/
module

public import proofs.«01_k».proof.Proof.Math.Match
public import proofs.«01_k».proof.On_settled
public import Idealize.ShloMosaic.Lib.WordCmp

@[expose] public section

set_option maxHeartbeats 400000

namespace Cert.Proof.Math

open Idealize.ShloMosaic

theorem settled_facts : Cert.On_settled.Facts := by
  constructor <;> decide

section Read
open Cert.On_settled Cert.On_settled.Facts

variable [Cert.On_settled.Facts]
variable (a0 : Boxes) (a1 : Scores) (b : Fin 2) (k : Fin 300)

/-! ## Folds of words -/

/-- Adding up ones counts them. -/
theorem fold_count {n : ℕ} (p : Fin n → Prop) [DecidablePred p] (s : Finset (Fin n)) :
    s.fold IntOp.addi 0#32 (fun x => BitVec.setWidth 32 (BitVec.ofBool (decide (p x)))) = BitVec.ofNat 32 (s.filter p).card := by
  induction s using Finset.induction_on with
  | empty => rfl
  | insert a s ha ih =>
    rw [Finset.fold_insert ha, ih, Finset.filter_insert]
    by_cases h : p a
    · rw [if_pos h, Finset.card_insert_of_notMem fun hn => ha (Finset.mem_filter.1 hn).1, decide_eq_true h, BitVec.ofNat_add,
        BitVec.add_comm]
      rfl
    · rw [if_neg h, decide_eq_false h]
      exact BitVec.zero_add _

/-- A sum of words that stand for numbers. -/
theorem fold_sum {n : ℕ} (g : Fin n → ℕ) (s : Finset (Fin n)) :
    s.fold IntOp.addi 0#32 (fun x => BitVec.ofNat 32 (g x)) = BitVec.ofNat 32 (∑ x ∈ s, g x) := by
  induction s using Finset.induction_on with
  | empty => rfl
  | insert a s ha ih =>
    rw [Finset.fold_insert ha, ih, Finset.sum_insert ha, BitVec.ofNat_add]
    rfl

theorem maxsi_ofNat_of_le {a b : ℕ} (h : b ≤ a) (ha : a < 2 ^ 31) :
    IntOp.maxsi (BitVec.ofNat 32 a) (BitVec.ofNat 32 b) = BitVec.ofNat 32 a := by
  have ha' : (BitVec.ofNat 32 a).toInt = a := by
    rw [BitVec.toInt_eq_toNat_of_lt (by rw [BitVec.toNat_ofNat]; omega), BitVec.toNat_ofNat, Nat.mod_eq_of_lt (by omega)]
  have hb' : (BitVec.ofNat 32 b).toInt = b := by
    rw [BitVec.toInt_eq_toNat_of_lt (by rw [BitVec.toNat_ofNat]; omega), BitVec.toNat_ofNat, Nat.mod_eq_of_lt (by omega)]
  rcases h.lt_or_eq with h' | rfl
  · simp [IntOp.maxsi, BitVec.slt, ha', hb']
    omega
  · simp [IntOp.maxsi]

theorem maxsi_least {a : ℕ} (ha : a < 2 ^ 31) : IntOp.maxsi (BitVec.ofNat 32 a) 2147483648#32 = BitVec.ofNat 32 a := by
  have ha' : (BitVec.ofNat 32 a).toInt = a := by
    rw [BitVec.toInt_eq_toNat_of_lt (by rw [BitVec.toNat_ofNat]; omega), BitVec.toNat_ofNat, Nat.mod_eq_of_lt (by omega)]
  have hb' : (2147483648#32).toInt = -2147483648 := by decide
  simp [IntOp.maxsi, BitVec.slt, ha', hb']
  omega

/-- The greatest of words that stand for numbers. -/
theorem fold_greatest {n : ℕ} [NeZero n] (g : Fin n → ℕ) (hg : ∀ i, g i < 2 ^ 31) :
    Finset.univ.fold IntOp.maxsi 2147483648#32 (fun x => BitVec.ofNat 32 (g x)) = BitVec.ofNat 32 (Finset.univ.sup g) := by
  obtain ⟨i, hi, he⟩ := Finset.exists_mem_eq_sup Finset.univ Finset.univ_nonempty g
  rw [he]
  exact fold_attained IntOp.maxsi _ _ _ _ (maxsi_least (hg i))
    (fun j _ => maxsi_ofNat_of_le ((Finset.le_sup (f := g) (Finset.mem_univ j)).trans_eq he) (hg i)) i hi rfl

/-! ## The second image's boxes -/

/-- The second image's first coordinates. -/
noncomputable def left1 : FVec Ideal S5000 .f32 := shapeCast S5000 (extractStridedSlice S1x5000x1 ![1, 0, 0] a0 slices_S2x5000x4_S1x5000x1_1_0_0) shapeCasts_S1x5000x1_S5000
/-- The second ones. -/
noncomputable def low1 : FVec Ideal S5000 .f32 := shapeCast S5000 (extractStridedSlice S1x5000x1 ![1, 0, 1] a0 slices_S2x5000x4_S1x5000x1_1_0_1) shapeCasts_S1x5000x1_S5000
/-- The third ones. -/
noncomputable def right1 : FVec Ideal S5000 .f32 := shapeCast S5000 (extractStridedSlice S1x5000x1 ![1, 0, 2] a0 slices_S2x5000x4_S1x5000x1_1_0_2) shapeCasts_S1x5000x1_S5000
/-- The fourth ones. -/
noncomputable def high1 : FVec Ideal S5000 .f32 := shapeCast S5000 (extractStridedSlice S1x5000x1 ![1, 0, 3] a0 slices_S2x5000x4_S1x5000x1_1_0_3) shapeCasts_S1x5000x1_S5000

theorem read_left1 (i : Fin 5000) : left1 a0 (ix1 i) = a0 (ix3 1 i 0) := by unfold left1; pointwise
theorem read_low1 (i : Fin 5000) : low1 a0 (ix1 i) = a0 (ix3 1 i 1) := by unfold low1; pointwise
theorem read_right1 (i : Fin 5000) : right1 a0 (ix1 i) = a0 (ix3 1 i 2) := by unfold right1; pointwise
theorem read_high1 (i : Fin 5000) : high1 a0 (ix1 i) = a0 (ix3 1 i 3) := by unfold high1; pointwise

section Pairs
variable (x1 y1 x2 y2 : FVec Ideal S5000 .f32)

/-- One value per box, for every pair's first box. -/
noncomputable def fst (x : FVec Ideal S5000 .f32) : FVec Ideal S5000x5000 .f32 :=
  broadcastInDim S5000x5000 ![0, 1] bcast_S5000x1_S5000x5000_0_1 (broadcastInDim S5000x1 ![0] bcast_S5000_S5000x1_0 x)
/-- One value per box, for every pair's second box. -/
noncomputable def snd (x : FVec Ideal S5000 .f32) : FVec Ideal S5000x5000 .f32 :=
  broadcastInDim S5000x5000 ![0, 1] bcast_S1x5000_S5000x5000_0_1 (broadcastInDim S1x5000 ![1] bcast_S5000_S1x5000_1 x)

theorem read_fst (x : FVec Ideal S5000 .f32) (i j : Fin 5000) : fst x (ix2 i j) = x (ix1 i) := by unfold fst; pointwise
theorem read_snd (x : FVec Ideal S5000 .f32) (i j : Fin 5000) : snd x (ix2 i j) = x (ix1 j) := by unfold snd; pointwise

/-- The pairs' common extent in one direction. -/
noncomputable def extent (lo hi : FVec Ideal S5000 .f32) : FVec Ideal S5000x5000 .f32 :=
  maximumf (subf (minimumf (fst hi) (snd hi)) (maximumf (fst lo) (snd lo))) (broadcastInDim S5000x5000 ![] bcast_S_S5000x5000 (constant (F := Ideal) S_ .f32 0x00000000#32))
/-- The boxes' areas. -/
noncomputable def area1 : FVec Ideal S5000 .f32 := mulf (subf x2 x1) (subf y2 y1)
/-- The pairs' overlaps over their unions. -/
noncomputable def ratio : FVec Ideal S5000x5000 .f32 :=
  Host.divf (mulf (extent x1 x2) (extent y1 y2))
    (subf (addf (fst (area1 x1 y1 x2 y2)) (snd (area1 x1 y1 x2 y2))) (mulf (extent x1 x2) (extent y1 y2)))

theorem read_extent (lo hi : FVec Ideal S5000 .f32) (i j : Fin 5000) :
    extent lo hi (ix2 i j) = max (min (hi (ix1 i)) (hi (ix1 j)) - max (lo (ix1 i)) (lo (ix1 j))) 0 := by
  unfold extent
  pointwise
  rw [read_fst, read_fst, read_snd, read_snd]

theorem read_ratio (i j : Fin 5000) : ratio x1 y1 x2 y2 (ix2 i j)
    = iou (x1 (ix1 i)) (y1 (ix1 i)) (x2 (ix1 i)) (y2 (ix1 i)) (x1 (ix1 j)) (y1 (ix1 j)) (x2 (ix1 j)) (y2 (ix1 j)) := by
  unfold ratio area1
  pointwise
  rw [read_fst, read_snd, read_extent, read_extent]
  pointwise
  rfl

/-- Which box removes which. -/
noncomputable def nearBits (q : FVec Ideal S5000x5000 .f32) : IVec S5000x5000 1 :=
  ori (cmpf .ogt q (broadcastInDim S5000x5000 ![] bcast_S_S5000x5000 (constant (F := Ideal) S_ .f32 0x3F000000#32)))
    (cmpi .eq (broadcastInDim S5000x5000 ![0, 1] bcast_S5000x1_S5000x5000_0_1 (broadcastInDim S5000x1 ![0] bcast_S5000_S5000x1_0 (iotaInDim S5000 32 0)))
      (broadcastInDim S5000x5000 ![0, 1] bcast_S1x5000_S5000x5000_0_1 (broadcastInDim S1x5000 ![1] bcast_S5000_S1x5000_1 (iotaInDim S5000 32 0))))

theorem read_near (q : FVec Ideal S5000x5000 .f32) (i j : Fin 5000) :
    nearBits q (ix2 i j) = BitVec.ofBool (decide (half < q (ix2 i j) ∨ i = j)) := by
  unfold nearBits
  pointwise
  rw [cmpi_eq_ofNat (by omega) (by omega), Bool.decide_or]
  simp only [Fin.ext_iff]
  exact ofBool_or _ _

/-- The most boxes one box removes. -/
noncomputable def crowdBits (v : IVec S5000x5000 1) : IVec S_ 32 :=
  Host.reduce IntOp.maxsi (Host.reduce IntOp.addi (extui 32 v natLt_1_32) (constantI S_ 32 0#32) reducesTo_S5000x5000_S5000_d1 h_S_)
    (constantI S_ 32 2147483648#32) reducesTo_S5000_S_d0 h_S_

theorem read_crowdBits (v : IVec S5000x5000 1) (p : Fin 5000 → Fin 5000 → Prop) [∀ i, DecidablePred (p i)]
    (hv : ∀ i j, v (ix2 i j) = BitVec.ofBool (decide (p i j))) :
    crowdBits v ix0 = BitVec.ofNat 32 (Finset.univ.sup fun i => (Finset.univ.filter (p i)).card) := by
  unfold crowdBits
  pointwise
  simp only [hv, fold_count]
  refine fold_greatest _ fun i => ?_
  have := Finset.card_le_univ (Finset.univ.filter (p i))
  rw [Fintype.card_fin] at this
  omega

end Pairs

theorem read_crowd : crowdBits (nearBits (ratio (left1 a0) (low1 a0) (right1 a0) (high1 a0))) ix0 = BitVec.ofNat 32 (crowd a0 1) := by
  refine read_crowdBits _ (Near a0 1) fun i j => ?_
  rw [read_near]
  simp only [read_ratio, read_left1, read_low1, read_right1, read_high1]

theorem crowd_le : crowd a0 1 ≤ 5000 :=
  Finset.sup_le fun i _ => (Finset.card_le_univ _).trans (by rw [Fintype.card_fin])

/-! ## The selections it is sure to make -/

/-- How many scores over the threshold the second image's classes have. -/
noncomputable def manyBits : IVec S20 32 :=
  Host.reduce IntOp.addi (extui 32 (cmpf .ogt (shapeCast S5000x20 (extractStridedSlice S1x5000x20 ![1, 0, 0] a1 slices_S2x5000x20_S1x5000x20_1_0_0)
    shapeCasts_S1x5000x20_S5000x20) (broadcastInDim S5000x20 ![] bcast_S_S5000x20 (constant (F := Ideal) S_ .f32 0x3D4CCCCD#32))) natLt_1_32)
    (constantI S_ 32 0#32) reducesTo_S5000x20_S20_d0 h_S_

theorem read_many (c : Fin 20) : manyBits a1 (ix1 c) = BitVec.ofNat 32 (many a1 1 c) := by
  unfold manyBits
  pointwise
  exact fold_count (fun i => thr < a1 (ix3 1 i c)) Finset.univ

theorem many_le (c : Fin 20) : many a1 1 c ≤ 5000 := (Finset.card_le_univ _).trans (by rw [Fintype.card_fin])

/-- How many selections are sure, from the two counts. -/
noncomputable def fewBits (x : IVec S_ 32) (y : IVec S20 32) : IVec S_ 32 :=
  Host.reduce IntOp.addi (Host.reduce IntOp.addi (extui 32 (cmpi .slt
    (broadcastInDim S20x300 ![0, 1] bcast_S1x300_S20x300_0_1 (muli (broadcastInDim S1x300 ![1] bcast_S300_S1x300_1 (iotaInDim S300 32 0))
      (broadcastInDim S1x300 ![] bcast_S_S1x300 x)))
    (broadcastInDim S20x300 ![0, 1] bcast_S20x1_S20x300_0_1 (broadcastInDim S20x1 ![0] bcast_S20_S20x1_0 y))) natLt_1_32)
    (constantI S_ 32 0#32) reducesTo_S20x300_S20_d1 h_S_) (constantI S_ 32 0#32) reducesTo_S20_S_d0 h_S_

theorem read_few (x : IVec S_ 32) (y : IVec S20 32) (hx : x ix0 = BitVec.ofNat 32 (crowd a0 1))
    (hy : ∀ c, y (ix1 c) = BitVec.ofNat 32 (many a1 1 c)) : fewBits x y ix0 = BitVec.ofNat 32 (few a0 a1) := by
  have h1 := crowd_le a0
  have hc : ∀ c (t : Fin 300), IntOp.cmpi .slt (IntOp.muli (BitVec.ofNat 32 t.val) (BitVec.ofNat 32 (crowd a0 1)))
      (BitVec.ofNat 32 (many a1 1 c)) = BitVec.ofBool (decide (t.val * crowd a0 1 < many a1 1 c)) := fun c t => by
    have h2 := many_le a1 c
    have h3 : t.val * crowd a0 1 ≤ 300 * 5000 := Nat.mul_le_mul t.isLt.le h1
    rw [WordCmp.muli_ofNat, WordCmp.cmpi_slt_ofNat (by omega) (by omega)]
  unfold fewBits
  pointwise
  simp only [hx, hy, hc]
  simp only [fold_count, fold_sum]
  rfl

theorem few_small : few a0 a1 ≤ 6000 := by
  refine (Finset.sum_le_card_nsmul Finset.univ _ 300 fun c _ => (Finset.card_le_univ _).trans (by rw [Fintype.card_fin])).trans ?_
  simp

/-! ## The first image's classes -/

/-- The greatest score of the first image's classes. -/
noncomputable def peaks : FVec Ideal S20 .f32 :=
  Host.reduce FloatOps.maximumf (shapeCast S5000x20 (extractStridedSlice S1x5000x20 ![0, 0, 0] a1 slices_S2x5000x20_S1x5000x20_0_0_0)
    shapeCasts_S1x5000x20_S5000x20) (constant (F := Ideal) S_ .f32 0xFF800000#32) reducesTo_S5000x20_S20_d0 h_S_

/-- The first class's. -/
noncomputable def peak00 (p : FVec Ideal S20 .f32) : FVec Ideal S_ .f32 := shapeCast S_ (extractStridedSlice S1 ![0] p slices_S20_S1_0) shapeCasts_S1_S_

/-- The greatest of all. -/
noncomputable def peak0 (p : FVec Ideal S20 .f32) : FVec Ideal S_ .f32 :=
  Host.reduce FloatOps.maximumf p (constant (F := Ideal) S_ .f32 0xFF800000#32) reducesTo_S20_S_d0 h_S_

theorem read_peaks (c : Fin 20) : peaks a1 (ix1 c) = peak a1 0 c := by
  unfold peaks
  pointwise
  rw [ofBits_negInf]
  rfl

theorem read_peak00 (p : FVec Ideal S20 .f32) : peak00 p ix0 = p (ix1 0) := by
  unfold peak00
  pointwise

theorem read_peak0 (p : FVec Ideal S20 .f32) : peak0 p ix0 = Finset.univ.sup fun c => p (ix1 c) := by
  unfold peak0
  pointwise
  rw [ofBits_negInf]
  rfl

/-! ## The mask -/

/-- The mask's rows, of what it computes first. -/
theorem read_rows (w : IVec S_ 32) (x : IVec S_ 1) (p t : FVec Ideal S_ .f32) :
    (fn_part4 (F := Ideal) w x p t).2.1 (ix2 b k) = IntOp.ori (IntOp.cmpi .eq (BitVec.ofNat 32 b.val) 1#32)
      (IntOp.ori (IntOp.cmpi .sle (BitVec.ofNat 32 k.val) (w ix0)) (ori x (cmpf .ole p t) ix0)) := by
  have h : (fn_part4 (F := Ideal) w x p t).2.1
    = ori (broadcastInDim S2x300 ![0, 1] bcast_S2x1_S2x300_0_1 (cmpi .eq (broadcastInDim S2x1 ![0] bcast_S2_S2x1_0 (iotaInDim S2 32 0))
        (broadcastInDim S2x1 ![] bcast_S_S2x1 (constantI S_ 32 1#32))))
      (broadcastInDim S2x300 ![0, 1] bcast_S1x300_S2x300_0_1 (broadcastInDim S1x300 ![1] bcast_S300_S1x300_1
        (ori (cmpi .sle (iotaInDim S300 32 0) (broadcastInDim S300 ![] bcast_S_S300 w))
          (broadcastInDim S300 ![] bcast_S_S300 (ori x (cmpf .ole p t)))))) := rfl
  rw [h]
  pointwise

/-- What the mask computes first. -/
theorem fn_eq : fn (F := Ideal) a0 a1 = fn_part4 (F := Ideal)
    (fewBits (crowdBits (nearBits (ratio (left1 a0) (low1 a0) (right1 a0) (high1 a0)))) (manyBits a1))
    (cmpf .oge (peak00 (peaks a1)) (peak0 (peaks a1))) (peak00 (peaks a1)) (constant (F := Ideal) S_ .f32 0x3D4CCCCD#32) := rfl

theorem read_safe (p q : FVec Ideal S_ .f32) :
    ori (cmpf .oge p q) (cmpf .ole p (constant (F := Ideal) S_ .f32 0x3D4CCCCD#32)) ix0
      = BitVec.ofBool (decide (q ix0 ≤ p ix0 ∨ p ix0 ≤ thr)) := by
  pointwise
  rw [Bool.decide_or]
  exact ofBool_or _ _

theorem read_mask (h : (fn (F := Ideal) a0 a1).2.1 (ix2 b k) = 1#1) : b = 1 ∨ Settled a0 a1 k := by
  rw [fn_eq, read_rows, read_safe, read_peak0, read_peak00, read_few a0 a1 _ _ (read_crowd a0) (read_many a1)] at h
  simp only [read_peaks] at h
  have hf := few_small a0 a1
  rw [cmpi_eq_ofNat (b := 1) (by omega) (by omega), WordCmp.cmpi_sle_ofNat (by omega) (by omega)] at h
  simp only [IntOp.ori, ofBool_or, ← Bool.decide_or, WordCmp.ofBool_decide_eq_one_iff] at h
  rcases h with h | h | h | h
  · exact .inl (Fin.ext h)
  · exact .inr (.inl h)
  · exact .inr (.inr (.inl fun c => (Finset.le_sup (f := peak a1 0) (Finset.mem_univ c)).trans h))
  · exact .inr (.inr (.inr h))

theorem mask_box (q : Fin 4) : (fn (F := Ideal) a0 a1).1 (ix3 b k q) = (fn (F := Ideal) a0 a1).2.1 (ix2 b k) := by
  have h : (fn (F := Ideal) a0 a1).1 = broadcastInDim S2x300x4 ![0, 1, 2] bcast_S2x300x1_S2x300x4_0_1_2
    (broadcastInDim S2x300x1 ![0, 1] bcast_S2x300_S2x300x1_0_1 (fn (F := Ideal) a0 a1).2.1) := rfl
  rw [h]
  generalize (fn (F := Ideal) a0 a1).2.1 = M
  pointwise

theorem mask_label : (fn (F := Ideal) a0 a1).2.2 = (fn (F := Ideal) a0 a1).2.1 := rfl

end Read

end Cert.Proof.Math
-- ==== Proof.Math.Entry.lean ====
/-
  What the kernel's five inputs hold when the region begins, of the two arguments.
-/
module

public import proofs.«01_k».proof.Proof.KI.Run
public import proofs.«01_k».proof.Proof.Math.Start
public import Idealize.ShloMosaic.Lib.Claim
public import Idealize.ShloMosaic.Lib.KernelVsHost

@[expose] public section

set_option maxHeartbeats 400000

namespace Cert.Proof.Math

open Idealize.ShloMosaic
open Cert.KernelIdeal Cert.KernelIdeal.Gen Cert.Proof.KernelIdeal

/-- The score table: a row per image and class, padded with minus one. -/
noncomputable def scoreTable (a1 : Scores) : Rows :=
  pad S40x5120 ![0, 0] ![0, 120] ![0, 0]
    (shapeCast S40x5000 (transpose S2x20x5000 [0, 2, 1] a1 transposes_S2x5000x20_S2x20x5000_0_2_1) shapeCasts_S2x20x5000_S40x5000)
    (constant (F := Ideal) S_ .f32 0xBF800000#32) pads_S40x5000_S40x5120_000_01200 h_S_

/-- One corner of the boxes, repeated for every class. -/
noncomputable def cornerTable (a0 : Boxes) (off : Fin 3 → ℕ) (h : S2x5000x4.Slices off S2x5000x1) : Rows :=
  pad S40x5120 ![0, 0] ![0, 120] ![0, 0]
    (shapeCast S40x5000 (broadcastInDim S2x20x5000 ![0, 1, 2] bcast_S2x1x5000_S2x20x5000_0_1_2
      (broadcastInDim S2x1x5000 ![0, 2] bcast_S2x5000_S2x1x5000_0_2
        (shapeCast S2x5000 (extractStridedSlice S2x5000x1 off a0 h) shapeCasts_S2x5000x1_S2x5000))) shapeCasts_S2x20x5000_S40x5000)
    (sitofp (F := Ideal) .f32 (constantI S_ 32 0#32)) pads_S40x5000_S40x5120_000_01200 h_S_

theorem wide_inside {α : Type} (Y : S2x20x5000.Idx → α) (v : S_.Idx → α) (b : Fin 2) (c : Fin 20) (i : Fin 5000) :
    pad S40x5120 ![0, 0] ![0, 120] ![0, 0] (shapeCast S40x5000 Y shapeCasts_S2x20x5000_S40x5000) v
      pads_S40x5000_S40x5120_000_01200 h_S_ (ix2 (row b c) (wide i)) = Y (ix3 b c i) := by
  rw [pad_apply_of_inside _ _ _ _ _ _ _ _ (ix2 (row b c) i) (fun a => by fin_cases a <;> simp [wide])]
  refine shapeCast_apply _ _ _ _ ?_
  rw [Shape.rowMajor_val_three, Shape.rowMajor_val_two]
  rfl

theorem wide_outside {α : Type} (Y : S40x5000.Idx → α) (v : S_.Idx → α) (r : Fin 40) (i : Fin 5120) (hi : 5000 ≤ i.val) :
    pad S40x5120 ![0, 0] ![0, 120] ![0, 0] Y v pads_S40x5000_S40x5120_000_01200 h_S_ (ix2 r i) = v (Shape.Idx.first h_S_) := by
  refine pad_apply_of_not_inside _ _ _ _ _ _ _ _ 1 ?_
  rintro ⟨-, -, h⟩
  have : i.val < 5000 := by simpa using h
  omega

theorem corner_read (a0 : Boxes) (q : Fin 4) (off : Fin 3 → ℕ) (h : S2x5000x4.Slices off S2x5000x1)
    (h0 : off 0 = 0) (h1 : off 1 = 0) (h2 : off 2 = q.val) (b : Fin 2) (c : Fin 20) (i : Fin 5000) :
    cornerTable a0 off h (ix2 (row b c) (wide i)) = a0 (ix3 b i q) := by
  unfold cornerTable
  rw [wide_inside]
  pointwise
  refine congrArg a0 (funext fun a => ?_)
  fin_cases a
  · exact Fin.ext (by show off 0 + b.val = b.val; omega)
  · exact Fin.ext (by show off 1 + i.val = i.val; omega)
  · exact Fin.ext h2

theorem score_read (a1 : Scores) (b : Fin 2) (c : Fin 20) (i : Fin 5000) :
    scoreTable a1 (ix2 (row b c) (wide i)) = a1 (ix3 b i c) := by
  unfold scoreTable
  rw [wide_inside]
  pointwise

theorem score_pad (a1 : Scores) (b : Fin 2) (c : Fin 20) (i : Fin 5120) (hi : 5000 ≤ i.val) :
    scoreTable a1 (ix2 (row b c) i) = minusOne := by
  unfold scoreTable
  rw [wide_outside _ _ _ _ hi]
  rfl

variable (m : (ℓ : Loc nD τ sig) → Buf (Elt Ideal) ℓ) (c : Dev nD)

theorem entry_0 : V m c main_v2 = scoreTable (m ((c.tc : Thread nD τ).loc main_arg1)) := by
  unfold V V0
  simp only [List.flatten_cons, List.flatten_nil, List.append_nil, hostOps0, hostOps0_1, hostOps0_2, hostOps0_3, hostOps0_4,
    hostOps0_5, hostOps0_6, hostOps0_7, hostOps0_8, hostOps0_9, List.cons_append, List.nil_append]
  after_results
  rfl

theorem entry_1 : V m c main_v8 = cornerTable (m ((c.tc : Thread nD τ).loc main_arg0)) _ slices_S2x5000x4_S2x5000x1_0_0_0 := by
  unfold V V0
  simp only [List.flatten_cons, List.flatten_nil, List.append_nil, hostOps0, hostOps0_1, hostOps0_2, hostOps0_3, hostOps0_4,
    hostOps0_5, hostOps0_6, hostOps0_7, hostOps0_8, hostOps0_9, List.cons_append, List.nil_append]
  after_results
  rfl

theorem entry_2 : V m c main_v14 = cornerTable (m ((c.tc : Thread nD τ).loc main_arg0)) _ slices_S2x5000x4_S2x5000x1_0_0_1 := by
  unfold V V0
  simp only [List.flatten_cons, List.flatten_nil, List.append_nil, hostOps0, hostOps0_1, hostOps0_2, hostOps0_3, hostOps0_4,
    hostOps0_5, hostOps0_6, hostOps0_7, hostOps0_8, hostOps0_9, List.cons_append, List.nil_append]
  after_results
  rfl

theorem entry_3 : V m c main_v20 = cornerTable (m ((c.tc : Thread nD τ).loc main_arg0)) _ slices_S2x5000x4_S2x5000x1_0_0_2 := by
  unfold V V0
  simp only [List.flatten_cons, List.flatten_nil, List.append_nil, hostOps0, hostOps0_1, hostOps0_2, hostOps0_3, hostOps0_4,
    hostOps0_5, hostOps0_6, hostOps0_7, hostOps0_8, hostOps0_9, List.cons_append, List.nil_append]
  after_results
  rfl

theorem entry_4 : V m c main_v26 = cornerTable (m ((c.tc : Thread nD τ).loc main_arg0)) _ slices_S2x5000x4_S2x5000x1_0_0_3 := by
  unfold V V0
  simp only [List.flatten_cons, List.flatten_nil, List.append_nil, hostOps0, hostOps0_1, hostOps0_2, hostOps0_3, hostOps0_4,
    hostOps0_5, hostOps0_6, hostOps0_7, hostOps0_8, hostOps0_9, List.cons_append, List.nil_append]
  after_results
  rfl

theorem index_0 : ∀ a, (cfg0.win 0).index t0_0 a = 0 := by decide +kernel
theorem index_1 : ∀ a, (cfg0.win 1).index t0_0 a = 0 := by decide +kernel
theorem index_2 : ∀ a, (cfg0.win 2).index t0_0 a = 0 := by decide +kernel
theorem index_3 : ∀ a, (cfg0.win 3).index t0_0 a = 0 := by decide +kernel
theorem index_4 : ∀ a, (cfg0.win 4).index t0_0 a = 0 := by decide +kernel

theorem blk_0 : iblk m c 0 t0_0 = V m c main_v2 := by
  funext x
  unfold iblk
  generalize V m c = W
  show W main_v2 (((cfg0.win 0).blk t0_0).view.emb x) = _
  refine congrArg (W main_v2) (funext fun a => Fin.ext ?_)
  show (((cfg0.win 0).rect t0_0).emb x a).val = (x a).val
  exact Pipeline.Window.rect_emb_val_of_index_zero _ _ a (index_0 a) x

theorem blk_1 : iblk m c 1 t0_0 = V m c main_v8 := by
  funext x
  unfold iblk
  generalize V m c = W
  show W main_v8 (((cfg0.win 1).blk t0_0).view.emb x) = _
  refine congrArg (W main_v8) (funext fun a => Fin.ext ?_)
  show (((cfg0.win 1).rect t0_0).emb x a).val = (x a).val
  exact Pipeline.Window.rect_emb_val_of_index_zero _ _ a (index_1 a) x

theorem blk_2 : iblk m c 2 t0_0 = V m c main_v14 := by
  funext x
  unfold iblk
  generalize V m c = W
  show W main_v14 (((cfg0.win 2).blk t0_0).view.emb x) = _
  refine congrArg (W main_v14) (funext fun a => Fin.ext ?_)
  show (((cfg0.win 2).rect t0_0).emb x a).val = (x a).val
  exact Pipeline.Window.rect_emb_val_of_index_zero _ _ a (index_2 a) x

theorem blk_3 : iblk m c 3 t0_0 = V m c main_v20 := by
  funext x
  unfold iblk
  generalize V m c = W
  show W main_v20 (((cfg0.win 3).blk t0_0).view.emb x) = _
  refine congrArg (W main_v20) (funext fun a => Fin.ext ?_)
  show (((cfg0.win 3).rect t0_0).emb x a).val = (x a).val
  exact Pipeline.Window.rect_emb_val_of_index_zero _ _ a (index_3 a) x

theorem blk_4 : iblk m c 4 t0_0 = V m c main_v26 := by
  funext x
  unfold iblk
  generalize V m c = W
  show W main_v26 (((cfg0.win 4).blk t0_0).view.emb x) = _
  refine congrArg (W main_v26) (funext fun a => Fin.ext ?_)
  show (((cfg0.win 4).rect t0_0).emb x a).val = (x a).val
  exact Pipeline.Window.rect_emb_val_of_index_zero _ _ a (index_4 a) x

/-- The five blocks, of the arguments. -/
theorem inputs : Inputs (m ((c.tc : Thread nD τ).loc main_arg0)) (m ((c.tc : Thread nD τ).loc main_arg1))
    (iblk m c 0 t0_0) (iblk m c 1 t0_0) (iblk m c 2 t0_0) (iblk m c 3 t0_0) (iblk m c 4 t0_0) := by
  rw [blk_0, blk_1, blk_2, blk_3, blk_4, entry_0, entry_1, entry_2, entry_3, entry_4]
  exact ⟨score_read _, score_pad _, corner_read _ 0 _ _ rfl rfl rfl, corner_read _ 1 _ _ rfl rfl rfl,
    corner_read _ 2 _ _ rfl rfl rfl, corner_read _ 3 _ _ rfl rfl rfl⟩

end Cert.Proof.Math
-- ==== Proof.Math.Results.lean ====
/-
  The kernel's three results are the reference's wherever the mask holds.
-/
module

public import proofs.«01_k».proof.Proof.Math.MaskRead
public import proofs.«01_k».proof.Proof.Math.Entry
public import proofs.«01_k».proof.Proof.KI.Run

@[expose] public section

set_option maxHeartbeats 400000

namespace Cert.Proof.Math

open Idealize.ShloMosaic
open Cert.KernelIdeal Cert.KernelIdeal.Gen Cert.Proof.KernelIdeal
open Cert.ReferenceIdeal.Step (State)

theorem read_v28 (B : FVec Ideal S2x304x4 .f32) (b : Fin 2) (k : Fin 300) (q : Fin 4) :
    extractStridedSlice S2x300x4 ![0, 0, 0] B slices_S2x304x4_S2x300x4_0_0_0 (ix3 b k q) = B (ix3 b (lane k) q) := by
  pointwise
  rfl

theorem read_v30 {α : Type} (S : S304x8.Idx → α) (b : Fin 2) (k : Fin 300) :
    transpose S2x300 [1, 0] (extractStridedSlice S300x2 ![0, 0] S slices_S304x8_S300x2_0_0) transposes_S300x2_S2x300_1_0 (ix2 b k)
      = S (ix2 (lane k) (b.castLE (by decide))) := by
  pointwise
  rfl

variable (m : (ℓ : Loc nD τ sig) → Buf (Elt Ideal) ℓ) (c : Dev nD)

/-- Wherever the mask holds, what the kernel leaves is what the reference's states give. -/
theorem results [Cert.On_settled.Facts] (R : ℕ → State Ideal)
    (h0 : R 0 = Cert.ReferenceIdeal.Step.init (F := Ideal) (m ((c.tc : Thread nD τ).loc main_arg0)) (m ((c.tc : Thread nD τ).loc main_arg1)))
    (hs : ∀ n, R (n + 1) = Cert.ReferenceIdeal.Step.step n (R n)) (s : MemSt nD τ sig (Elt Ideal)) (h : RunPost m s c) :
    (∀ i : S2x300x4.Idx, (Cert.On_settled.fn (F := Ideal) (m ((c.tc : Thread nD τ).loc main_arg0)) (m ((c.tc : Thread nD τ).loc main_arg1))).1 i = 1#1 →
      s.mem ((c.tc : Thread nD τ).loc main_v28) i = Cert.ReferenceIdeal.Step.R_main_v42 (R 300) i)
    ∧ (∀ i : S2x300.Idx, (Cert.On_settled.fn (F := Ideal) (m ((c.tc : Thread nD τ).loc main_arg0)) (m ((c.tc : Thread nD τ).loc main_arg1))).2.1 i = 1#1 →
      s.mem ((c.tc : Thread nD τ).loc main_v30) i = Cert.ReferenceIdeal.Step.R_main_v43 (R 300) i)
    ∧ (∀ i : S2x300.Idx, (Cert.On_settled.fn (F := Ideal) (m ((c.tc : Thread nD τ).loc main_arg0)) (m ((c.tc : Thread nD τ).loc main_arg1))).2.2 i = 1#1 →
      s.mem ((c.tc : Thread nD τ).loc main_v32) i = Cert.ReferenceIdeal.Step.R_main_v44 (R 300) i) := by
  obtain ⟨⟨B, S, L, hB, hS, hL, e28, e30, e32⟩, -⟩ := h
  have hall := fun n hn => sim_all (inputs m c) R h0 hs n hn
  have hsim := hall 300 le_rfl
  have hm : Made (m ((c.tc : Thread nD τ).loc main_arg0)) (m ((c.tc : Thread nD τ).loc main_arg1)) (R 300) := fun d t => made hall hs 1 d t
  refine ⟨fun i hi => ?_, fun i hi => ?_, fun i hi => ?_⟩
  · have he : i = ix3 (i 0) (i 1) (i 2) := by funext a; fin_cases a <;> rfl
    rw [he] at hi ⊢
    rw [e28]
    refine (read_v28 B (i 0) (i 1) (i 2)).trans (boxes hsim hm B hB (i 0) (i 1) (i 2) ?_)
    exact read_mask _ _ (i 0) (i 1) ((mask_box _ _ (i 0) (i 1) (i 2)).symm.trans hi)
  · have he : i = ix2 (i 0) (i 1) := by funext a; fin_cases a <;> rfl
    rw [he] at hi ⊢
    rw [e30]
    exact (read_v30 S (i 0) (i 1)).trans (scores hsim hm S hS (i 0) (i 1) (read_mask _ _ (i 0) (i 1) hi))
  · have he : i = ix2 (i 0) (i 1) := by funext a; fin_cases a <;> rfl
    rw [he] at hi ⊢
    rw [e32]
    exact (read_v30 L (i 0) (i 1)).trans (labels hsim hm L hL (i 0) (i 1) (read_mask _ _ (i 0) (i 1) hi))

end Cert.Proof.Math
-- ==== Proof.lean ====
/-
  The certificate's claims, from the runs of the two kernels and of the reference.
-/
module

public import proofs.«01_k».proof.Defs
public import proofs.«01_k».proof.Proof.K.Run
public import proofs.«01_k».proof.Proof.KI.Run
public import proofs.«01_k».proof.Proof.RefStepRun
public import proofs.«01_k».proof.Proof.Math.Results
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs and leaves its arguments. -/
theorem frame_kernel : letI := Cert.Kernel.Gen.facts; Cert.quiescent_Kernel := fun m g _ =>
  (θ_run _ _ _).mono (fun r h => ⟨fun c => (h.1 c).2, h.2⟩) (Kernel.run (F := Bits) m g)

/-- So does the kernel at exact arithmetic. -/
theorem frame_kernelIdeal : letI := Cert.KernelIdeal.Gen.facts; Cert.quiescent_KernelIdeal := fun m g _ =>
  (θ_run _ _ _).mono (fun r h => ⟨fun c => (h.1 c).2, h.2⟩) (KernelIdeal.run (F := Ideal) m g)

/-- The states of the reference's loop. -/
def refState (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => StepRun.initState m c
  | n + 1 => Cert.ReferenceIdeal.Step.step n (refState m c n)

/-- The reference runs and leaves its arguments. -/
theorem frame_reference : letI := Cert.ReferenceIdeal.Gen.facts; Cert.quiescent_ReferenceIdeal := fun m g _ =>
  (θ_run _ _ _).mono (fun r h => ⟨fun c => (h c).2.2.2, Idealize.ShloMosaic.sem_eq_zero_of_no_sems (by decide) r.2⟩)
    (StepRun.run_iter (F := Ideal) m g (refState m) (fun _ => rfl) (fun _ _ => rfl))

/-- Both run, and wherever the mask holds they leave the same results: those of the reference's states. -/
theorem algebraic_kernel_reference : letI := Cert.KernelIdeal.Gen.facts; letI := Cert.ReferenceIdeal.Gen.facts
    letI := Math.settled_facts; Cert.algebraic_KernelIdeal_ReferenceIdeal_on_settled := by
  letI := Cert.KernelIdeal.Gen.facts
  letI := Cert.ReferenceIdeal.Gen.facts
  letI := Math.settled_facts
  intro m g m' g' _ hargs
  refine ⟨fun c => Cert.ReferenceIdeal.Step.R_main_v42 (refState m' c 300), fun c => Cert.ReferenceIdeal.Step.R_main_v43 (refState m' c 300),
    fun c => Cert.ReferenceIdeal.Step.R_main_v44 (refState m' c 300),
    (θ_run _ _ _).mono (fun r h c => ?_) (KernelIdeal.run (F := Ideal) m g),
    (θ_run _ _ _).mono (fun r h c => ?_) (StepRun.run_iter (F := Ideal) m' g' (refState m') (fun _ => rfl) (fun _ _ => rfl))⟩
  · have h0 : refState m' c 0 = Cert.ReferenceIdeal.Step.init (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) := by
      rw [← (hargs c).1, ← (hargs c).2]
      rfl
    obtain ⟨h1, h2, h3⟩ := Math.results m c (refState m' c) h0 (fun _ => rfl) r.2 (h.1 c)
    exact ⟨h1, h2, h3, (h.1 c).2.1, (h.1 c).2.2⟩
  · obtain ⟨h1, h2, h3, h4, h5⟩ := h c
    exact ⟨fun i _ => congrFun h1 i, fun i _ => congrFun h2 i, fun i _ => congrFun h3 i, h4, h5⟩

theorem claim : Cert.Claim := ⟨Cert.Kernel.Gen.facts, Cert.KernelIdeal.Gen.facts, Cert.ReferenceIdeal.Gen.facts, Math.settled_facts,
  frame_kernel, frame_kernelIdeal, frame_reference, trivial, algebraic_kernel_reference⟩

end Cert.Proof

end
